-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_spread [hPre_finite_and_spread : Cert.Pre_finite_and_spread.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_spread.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_and_spread.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_and_spread.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite_and_spread.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_spread [hPre_finite_and_spread : Cert.Pre_finite_and_spread.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_spread.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_and_spread.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_and_spread.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite_and_spread.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_and_spread [hKernelIdeal : Cert.KernelIdeal.Facts] [hPre_finite_and_spread : Cert.Pre_finite_and_spread.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_spread m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_and_spread [hReferenceIdeal : Cert.ReferenceIdeal.Facts] [hPre_finite_and_spread : Cert.Pre_finite_and_spread.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_spread m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_and_spread [hKernelIdeal : Cert.KernelIdeal.Facts] [hReferenceIdeal : Cert.ReferenceIdeal.Facts] [hPre_finite_and_spread : Cert.Pre_finite_and_spread.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_spread m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_v47) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_and_spread : Cert.Pre_finite_and_spread.Facts),
    quiescent_Kernel (hKernel := hKernel)
    ∧ quiescent_KernelIdeal (hKernelIdeal := hKernelIdeal)
    ∧ quiescent_KernelIdeal_pre_finite_and_spread (hKernelIdeal := hKernelIdeal) (hPre_finite_and_spread := hPre_finite_and_spread)
    ∧ quiescent_ReferenceIdeal (hReferenceIdeal := hReferenceIdeal)
    ∧ quiescent_ReferenceIdeal_pre_finite_and_spread (hReferenceIdeal := hReferenceIdeal) (hPre_finite_and_spread := hPre_finite_and_spread)
    ∧ preserves_Kernel_KernelIdeal
    ∧ algebraic_KernelIdeal_ReferenceIdeal_pre_finite_and_spread (hKernelIdeal := hKernelIdeal) (hReferenceIdeal := hReferenceIdeal) (hPre_finite_and_spread := hPre_finite_and_spread)
-- ==== Pre_finite_and_spread.lean ====
abbrev S16384x2048 : Shape := ⟨2, ![16384, 2048]⟩
abbrev S16384x1000 : Shape := ⟨2, ![16384, 1000]⟩
abbrev S16384 : Shape := ⟨1, ![16384]⟩
abbrev S1000 : Shape := ⟨1, ![1000]⟩
abbrev S2048x1000 : Shape := ⟨2, ![2048, 1000]⟩
abbrev S_ : Shape := ⟨0, ![]⟩
abbrev S16384x1 : Shape := ⟨2, ![16384, 1]⟩

class Facts : Prop where
  reducesTo_S16384x1000_S16384_d1 : S16384x1000.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x1000_0_1 : S16384x1.BroadcastsInDim S16384x1000 (![0, 1] : Fin 2 → Fin S16384x1000.rank)
  bcast_S_S1000 : S_.BroadcastsInDim S1000 (![] : Fin 0 → Fin S1000.rank)
  reducesTo_S16384x1000_S1000_d0 : S16384x1000.ReducesTo [0] S1000
  bcast_S_S16384x2048 : S_.BroadcastsInDim S16384x2048 (![] : Fin 0 → Fin S16384x2048.rank)
  bcast_S_S16384x1000 : S_.BroadcastsInDim S16384x1000 (![] : Fin 0 → Fin S16384x1000.rank)
  bcast_S_S2048x1000 : S_.BroadcastsInDim S2048x1000 (![] : Fin 0 → Fin S2048x1000.rank)
  reducesTo_S1000_S_d0 : S1000.ReducesTo [0] S_

variable [Facts]

def fn_part1 {F : FTy → Type} [FloatOps F] (main_arg0 : FVec F S16384x2048 .f32) (main_arg1 : FVec F S16384x1000 .f32) (main_arg4 : FVec F S2048x1000 .f32) (main_v12 : FVec F S1000 .f32) (main_v15 : FVec F S1000 .f32) (main_v16 : FVec F S1000 .f32) : IVec S16384x2048 1 × IVec S16384x1000 1 × IVec S2048x1000 1 × IVec S_ 1 :=
  let main_v17 : FVec F S1000 .f32 := mulf main_v16 main_v15
  let main_v18 : FVec F S1000 .f32 := addf main_v12 main_v17
  let main_v19 : FVec F S16384x2048 .f32 := Host.absf main_arg0
  let main_cst_6 : FVec F S_ .f32 := constant S_ .f32 0x7F800000#32
  let main_v20 : FVec F S16384x2048 .f32 := broadcastInDim S16384x2048 ![] bcast_S_S16384x2048 main_cst_6
  let main_v21 : IVec S16384x2048 1 := cmpf .olt main_v19 main_v20
  let main_v22 : FVec F S16384x1000 .f32 := Host.absf main_arg1
  let main_cst_7 : FVec F S_ .f32 := constant S_ .f32 0x7F800000#32
  let main_v23 : FVec F S16384x1000 .f32 := broadcastInDim S16384x1000 ![] bcast_S_S16384x1000 main_cst_7
  let main_v24 : IVec S16384x1000 1 := cmpf .olt main_v22 main_v23
  let main_v25 : FVec F S2048x1000 .f32 := Host.absf main_arg4
  let main_cst_8 : FVec F S_ .f32 := constant S_ .f32 0x7F800000#32
  let main_v26 : FVec F S2048x1000 .f32 := broadcastInDim S2048x1000 ![] bcast_S_S2048x1000 main_cst_8
  let main_v27 : IVec S2048x1000 1 := cmpf .olt main_v25 main_v26
  let main_cst_9 : FVec F S_ .f32 := constant S_ .f32 0xFF800000#32
  let main_v28 : FVec F S_ .f32 := (fun x v => Host.reduce FloatOps.maximumf x v reducesTo_S1000_S_d0 h_S_) main_v18 main_cst_9
  let main_cst_10 : FVec F S_ .f32 := constant S_ .f32 0x7F800000#32
  let main_v29 : FVec F S_ .f32 := (fun x v => Host.reduce FloatOps.minimumf x v reducesTo_S1000_S_d0 h_S_) main_v18 main_cst_10
  let main_v30 : FVec F S_ .f32 := subf main_v28 main_v29
  let main_cst_11 : FVec F S_ .f32 := constant S_ .f32 0x00000000#32
  let main_v31 : IVec S_ 1 := cmpf .une main_v30 main_cst_11
  (main_v21, main_v24, main_v27, main_v31)

def fn {F : FTy → Type} [FloatOps F] (main_arg0 : FVec F S16384x2048 .f32) (main_arg1 : FVec F S16384x1000 .f32) (main_arg2 : FVec F S16384 .f32) (main_arg3 : FVec F S1000 .f32) (main_arg4 : FVec F S2048x1000 .f32) : IVec S16384x2048 1 × IVec S16384x1000 1 × IVec S2048x1000 1 × IVec S_ 1 :=
  let main_cst : FVec F S_ .f32 := constant S_ .f32 0xFF800000#32
  let main_v0 : FVec F S16384 .f32 := (fun x v => Host.reduce FloatOps.maximumf x v reducesTo_S16384x1000_S16384_d1 h_S_) main_arg1 main_cst
  let main_cst_0 : FVec F S_ .f32 := constant S_ .f32 0xFF800000#32
  let main_v1 : FVec F S16384 .f32 := broadcastInDim S16384 ![] bcast_S_S16384 main_cst_0
  let main_v2 : FVec F S16384 .f32 := maximumf main_v1 main_v0
  let main_v3 : FVec F S16384x1 .f32 := broadcastInDim S16384x1 ![0] bcast_S16384_S16384x1_0 main_v2
  let main_v4 : FVec F S16384x1000 .f32 := broadcastInDim S16384x1000 ![0, 1] bcast_S16384x1_S16384x1000_0_1 main_v3
  let main_v5 : FVec F S16384x1000 .f32 := subf main_arg1 main_v4
  let main_v6 : FVec F S16384x1000 .f32 := Host.exp main_v5
  let main_cst_1 : FVec F S_ .f32 := constant S_ .f32 0x00000000#32
  let main_v7 : FVec F S16384 .f32 := (fun x v => Host.reduceAdd x v reducesTo_S16384x1000_S16384_d1 h_S_) main_v6 main_cst_1
  let main_v8 : FVec F S16384x1 .f32 := broadcastInDim S16384x1 ![0] bcast_S16384_S16384x1_0 main_v7
  let main_v9 : FVec F S16384x1000 .f32 := broadcastInDim S16384x1000 ![0, 1] bcast_S16384x1_S16384x1000_0_1 main_v8
  let main_v10 : FVec F S16384x1000 .f32 := Host.divf main_v6 main_v9
  let main_cst_2 : FVec F S_ .f32 := constant S_ .f32 0x3F7D70A4#32
  let main_v11 : FVec F S1000 .f32 := broadcastInDim S1000 ![] bcast_S_S1000 main_cst_2
  let main_v12 : FVec F S1000 .f32 := mulf main_arg3 main_v11
  let main_cst_3 : FVec F S_ .f32 := constant S_ .f32 0x00000000#32
  let main_v13 : FVec F S1000 .f32 := (fun x v => Host.reduceAdd x v reducesTo_S16384x1000_S1000_d0 h_S_) main_v10 main_cst_3
  let main_cst_4 : FVec F S_ .f32 := constant S_ .f32 0x46800000#32
  let main_v14 : FVec F S1000 .f32 := broadcastInDim S1000 ![] bcast_S_S1000 main_cst_4
  let main_v15 : FVec F S1000 .f32 := Host.divf main_v13 main_v14
  let main_cst_5 : FVec F S_ .f32 := constant S_ .f32 0x3C23D70A#32
  let main_v16 : FVec F S1000 .f32 := broadcastInDim S1000 ![] bcast_S_S1000 main_cst_5
  fn_part1 (F := F) main_arg0 main_arg1 main_arg4 main_v12 main_v15 main_v16
-- ==== Kernel.lean ====
abbrev S16384x2048 : Shape := ⟨2, ![16384, 2048]⟩
abbrev S16384x1000 : Shape := ⟨2, ![16384, 1000]⟩
abbrev S16384 : Shape := ⟨1, ![16384]⟩
abbrev S1000 : Shape := ⟨1, ![1000]⟩
abbrev S2048x1000 : Shape := ⟨2, ![2048, 1000]⟩
abbrev S1000x16384 : Shape := ⟨2, ![1000, 16384]⟩
abbrev S1000x2048 : Shape := ⟨2, ![1000, 2048]⟩
abbrev S1x16384 : Shape := ⟨2, ![1, 16384]⟩
abbrev S1x1000x1 : Shape := ⟨3, ![1, 1000, 1]⟩
abbrev S1000x4096 : Shape := ⟨2, ![1000, 4096]⟩
abbrev S1000x1 : Shape := ⟨2, ![1000, 1]⟩
abbrev S4096 : Shape := ⟨1, ![4096]⟩
abbrev S1x4096 : Shape := ⟨2, ![1, 4096]⟩
abbrev S1 : Shape := ⟨1, ![1]⟩
abbrev S1x1 : Shape := ⟨2, ![1, 1]⟩
abbrev S1x1x1 : Shape := ⟨3, ![1, 1, 1]⟩
abbrev S1024x2048 : Shape := ⟨2, ![1024, 2048]⟩
abbrev S1000x1024 : Shape := ⟨2, ![1000, 1024]⟩
abbrev S1x1024 : Shape := ⟨2, ![1, 1024]⟩
abbrev S512x2048 : Shape := ⟨2, ![512, 2048]⟩
abbrev S1000x512 : Shape := ⟨2, ![1000, 512]⟩
abbrev S1x512 : Shape := ⟨2, ![1, 512]⟩
abbrev S512 : Shape := ⟨1, ![512]⟩
abbrev S_ : Shape := ⟨0, ![]⟩

abbrev nBuf : Space → Nat
  | .hbm => 17
  | .vmem => 15
  | .smem => 0
  | _ => 0

abbrev bufTy : (tb : Table) → Fin (tcTables nBuf tb) → BufTy
  | .hbm, ⟨0, _⟩ => ⟨S16384x2048, .f32⟩
  | .hbm, ⟨1, _⟩ => ⟨S16384x1000, .f32⟩
  | .hbm, ⟨2, _⟩ => ⟨S16384, .f32⟩
  | .hbm, ⟨3, _⟩ => ⟨S1000, .f32⟩
  | .hbm, ⟨4, _⟩ => ⟨S2048x1000, .f32⟩
  | .hbm, ⟨5, _⟩ => ⟨S1000x16384, .f32⟩
  | .hbm, ⟨6, _⟩ => ⟨S1000x2048, .f32⟩
  | .hbm, ⟨7, _⟩ => ⟨S1x16384, .f32⟩
  | .hbm, ⟨8, _⟩ => ⟨S1x1000x1, .f32⟩
  | .hbm, ⟨9, _⟩ => ⟨S1x1000x1, .f32⟩
  | .hbm, ⟨10, _⟩ => ⟨S1x1x1, .f32⟩
  | .hbm, ⟨11, _⟩ => ⟨S1x1000x1, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S1000, .f32⟩
  | .local _ .vmem, ⟨0, _⟩ => ⟨S1000x4096, .f32⟩
  | .local _ .vmem, ⟨1, _⟩ => ⟨S1000x4096, .f32⟩
  | .local _ .vmem, ⟨2, _⟩ => ⟨S1x1000x1, .f32⟩
  | .local _ .vmem, ⟨3, _⟩ => ⟨S1x1000x1, .f32⟩
  | .local _ .vmem, ⟨4, _⟩ => ⟨S1000x1, .f32⟩
  | .local _ .vmem, ⟨5, _⟩ => ⟨S1024x2048, .f32⟩
  | .local _ .vmem, ⟨6, _⟩ => ⟨S1024x2048, .f32⟩
  | .local _ .vmem, ⟨7, _⟩ => ⟨S1000x1024, .f32⟩
  | .local _ .vmem, ⟨8, _⟩ => ⟨S1000x1024, .f32⟩
  | .local _ .vmem, ⟨9, _⟩ => ⟨S1000x2048, .f32⟩
  | .local _ .vmem, ⟨10, _⟩ => ⟨S1x1024, .f32⟩
  | .local _ .vmem, ⟨11, _⟩ => ⟨S1x1024, .f32⟩
  | .local _ .vmem, ⟨12, _⟩ => ⟨S1x1000x1, .f32⟩
  | .local _ .vmem, ⟨13, _⟩ => ⟨S1x1x1, .f32⟩
  | .local _ .vmem, ⟨14, _⟩ => ⟨S1x1000x1, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_cst : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_scratch0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem3_0 : DmaSem sig := 9
abbrev cc1_sem3_1 : DmaSem sig := 10
abbrev cc1_sem4_0 : DmaSem sig := 11
abbrev cc1_sem5_0 : DmaSem sig := 12
abbrev cc1_sem6_0 : DmaSem sig := 13

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v16 : BitVec 1 := Scalar.cmpi .eq arg0 c3_i32
  let v17 : BitVec 32 := Scalar.extui v16
  let c0_i32_8 : BitVec 32 := 0#32
  let v18 : BitVec 1 := Scalar.cmpi .ne v17 c0_i32_8
  v18

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1000x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1000x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1000x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1000x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x1000x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1000x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]
-- ==== ReferenceIdeal.lean ====
abbrev S16384x2048 : Shape := ⟨2, ![16384, 2048]⟩
abbrev S16384x1000 : Shape := ⟨2, ![16384, 1000]⟩
abbrev S16384 : Shape := ⟨1, ![16384]⟩
abbrev S1000 : Shape := ⟨1, ![1000]⟩
abbrev S2048x1000 : Shape := ⟨2, ![2048, 1000]⟩
abbrev S_ : Shape := ⟨0, ![]⟩
abbrev S16384x1 : Shape := ⟨2, ![16384, 1]⟩
abbrev S1x1000 : Shape := ⟨2, ![1, 1000]⟩

abbrev nBuf : Space → Nat
  | .hbm => 121
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x1000, .f32⟩
  | .hbm, ⟨2, _⟩ => ⟨S16384, .f32⟩
  | .hbm, ⟨3, _⟩ => ⟨S1000, .f32⟩
  | .hbm, ⟨4, _⟩ => ⟨S2048x1000, .f32⟩
  | .hbm, ⟨5, _⟩ => ⟨S_, .f32⟩
  | .hbm, ⟨6, _⟩ => ⟨S16384, .f32⟩
  | .hbm, ⟨7, _⟩ => ⟨S_, .f32⟩
  | .hbm, ⟨8, _⟩ => ⟨S16384, .f32⟩
  | .hbm, ⟨9, _⟩ => ⟨S16384, .f32⟩
  | .hbm, ⟨10, _⟩ => ⟨S16384x1, .f32⟩
  | .hbm, ⟨11, _⟩ => ⟨S16384x1000, .f32⟩
  | .hbm, ⟨12, _⟩ => ⟨S16384x1000, .f32⟩
  | .hbm, ⟨13, _⟩ => ⟨S16384x1000, .f32⟩
  | .hbm, ⟨14, _⟩ => ⟨S_, .f32⟩
  | .hbm, ⟨15, _⟩ => ⟨S16384, .f32⟩
  | .hbm, ⟨16, _⟩ => ⟨S16384x1, .f32⟩
  | .hbm, ⟨17, _⟩ => ⟨S16384x1000, .f32⟩
  | .hbm, ⟨18, _⟩ => ⟨S16384x1000, .f32⟩
  | .hbm, ⟨19, _⟩ => ⟨S16384x1000, .i32⟩
  | .hbm, ⟨20, _⟩ => ⟨S_, .f32⟩
  | .hbm, ⟨21, _⟩ => ⟨S_, .i32⟩
  | .hbm, ⟨22, _⟩ => ⟨S16384, .f32⟩
  | .hbm, ⟨23, _⟩ => ⟨S16384, .i32⟩
  | .hbm, ⟨24, _⟩ => ⟨S16384x1, .i32⟩
  | .hbm, ⟨25, _⟩ => ⟨S1x1000, .i32⟩
  | .hbm, ⟨26, _⟩ => ⟨S16384x1000, .i32⟩
  | .hbm, ⟨27, _⟩ => ⟨S16384x1000, .i32⟩
  | .hbm, ⟨28, _⟩ => ⟨S16384x1000, .i1⟩
  | .hbm, ⟨29, _⟩ => ⟨S16384x1000, .f32⟩
  | .hbm, ⟨30, _⟩ => ⟨S_, .f32⟩
  | .hbm, ⟨31, _⟩ => ⟨S1000, .f32⟩
  | .hbm, ⟨32, _⟩ => ⟨S1000, .f32⟩
  | .hbm, ⟨33, _⟩ => ⟨S_, .f32⟩
  | .hbm, ⟨34, _⟩ => ⟨S1000, .f32⟩
  | .hbm, ⟨35, _⟩ => ⟨S_, .f32⟩
  | .hbm, ⟨36, _⟩ => ⟨S1000, .f32⟩
  | .hbm, ⟨37, _⟩ => ⟨S1000, .f32⟩
  | .hbm, ⟨38, _⟩ => ⟨S_, .f32⟩
  | .hbm, ⟨39, _⟩ => ⟨S1000, .f32⟩
  | .hbm, ⟨40, _⟩ => ⟨S1000, .f32⟩
  | .hbm, ⟨41, _⟩ => ⟨S1000, .f32⟩
  | .hbm, ⟨42, _⟩ => ⟨S_, .f32⟩
  | .hbm, ⟨43, _⟩ => ⟨S_, .f32⟩
  | .hbm, ⟨44, _⟩ => ⟨S1000, .f32⟩
  | .hbm, ⟨45, _⟩ => ⟨S1000, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S1000, .f32⟩
  | .hbm, ⟨52, _⟩ => ⟨S1000, .f32⟩
  | .hbm, ⟨53, _⟩ => ⟨S_, .f32⟩
  | .hbm, ⟨54, _⟩ => ⟨S1000, .f32⟩
  | .hbm, ⟨55, _⟩ => ⟨S1000, .f32⟩
  | .hbm, ⟨56, _⟩ => ⟨S_, .f32⟩
  | .hbm, ⟨57, _⟩ => ⟨S1000, .f32⟩
  | .hbm, ⟨58, _⟩ => ⟨S1000, .f32⟩
  | .hbm, ⟨59, _⟩ => ⟨S1x1000, .f32⟩
  | .hbm, ⟨60, _⟩ => ⟨S16384x1000, .f32⟩
  | .hbm, ⟨61, _⟩ => ⟨S16384x1000, .i1⟩
  | .hbm, ⟨62, _⟩ => ⟨S16384x1000, .f32⟩
  | .hbm, ⟨63, _⟩ => ⟨S_, .f32⟩
  | .hbm, ⟨64, _⟩ => ⟨S16384, .f32⟩
  | .hbm, ⟨65, _⟩ => ⟨S16384x1000, .i32⟩
  | .hbm, ⟨66, _⟩ => ⟨S_, .f32⟩
  | .hbm, ⟨67, _⟩ => ⟨S_, .i32⟩
  | .hbm, ⟨68, _⟩ => ⟨S16384, .f32⟩
  | .hbm, ⟨69, _⟩ => ⟨S16384, .i32⟩
  | .hbm, ⟨70, _⟩ => ⟨S_, .f32⟩
  | .hbm, ⟨71, _⟩ => ⟨S1000, .f32⟩
  | .hbm, ⟨72, _⟩ => ⟨S_, .i32⟩
  | .hbm, ⟨73, _⟩ => ⟨S16384, .i32⟩
  | .hbm, ⟨74, _⟩ => ⟨S16384, .i1⟩
  | .hbm, ⟨75, _⟩ => ⟨S_, .i32⟩
  | .hbm, ⟨76, _⟩ => ⟨S16384, .i32⟩
  | .hbm, ⟨77, _⟩ => ⟨S16384, .i32⟩
  | .hbm, ⟨78, _⟩ => ⟨S16384, .i32⟩
  | .hbm, ⟨79, _⟩ => ⟨S16384x1, .i32⟩
  | .hbm, ⟨80, _⟩ => ⟨S_, .f32⟩
  | .hbm, ⟨81, _⟩ => ⟨S16384, .f32⟩
  | .hbm, ⟨82, _⟩ => ⟨S1000, .f32⟩
  | .hbm, ⟨83, _⟩ => ⟨S_, .f32⟩
  | .hbm, ⟨84, _⟩ => ⟨S16384, .f32⟩
  | .hbm, ⟨85, _⟩ => ⟨S16384, .f32⟩
  | .hbm, ⟨86, _⟩ => ⟨S16384x1, .f32⟩
  | .hbm, ⟨87, _⟩ => ⟨S_, .f32⟩
  | .hbm, ⟨88, _⟩ => ⟨S16384x1, .f32⟩
  | .hbm, ⟨89, _⟩ => ⟨S16384x1, .f32⟩
  | .hbm, ⟨90, _⟩ => ⟨S16384x1000, .f32⟩
  | .hbm, ⟨91, _⟩ => ⟨S16384x1000, .f32⟩
  | .hbm, ⟨92, _⟩ => ⟨S16384x1, .f32⟩
  | .hbm, ⟨93, _⟩ => ⟨S16384x1000, .f32⟩
  | .hbm, ⟨94, _⟩ => ⟨S16384x1000, .f32⟩
  | .hbm, ⟨95, _⟩ => ⟨S16384x1000, .f32⟩
  | .hbm, ⟨96, _⟩ => ⟨S16384x1000, .f32⟩
  | .hbm, ⟨97, _⟩ => ⟨S_, .f32⟩
  | .hbm, ⟨98, _⟩ => ⟨S16384, .f32⟩
  | .hbm, ⟨99, _⟩ => ⟨S_, .f32⟩
  | .hbm, ⟨100, _⟩ => ⟨S16384, .f32⟩
  | .hbm, ⟨101, _⟩ => ⟨S16384, .f32⟩
  | .hbm, ⟨102, _⟩ => ⟨S16384x1, .f32⟩
  | .hbm, ⟨103, _⟩ => ⟨S16384x1000, .f32⟩
  | .hbm, ⟨104, _⟩ => ⟨S16384x1000, .f32⟩
  | .hbm, ⟨105, _⟩ => ⟨S16384x1000, .f32⟩
  | .hbm, ⟨106, _⟩ => ⟨S_, .f32⟩
  | .hbm, ⟨107, _⟩ => ⟨S16384, .f32⟩
  | .hbm, ⟨108, _⟩ => ⟨S16384x1, .f32⟩
  | .hbm, ⟨109, _⟩ => ⟨S16384x1, .f32⟩
  | .hbm, ⟨110, _⟩ => ⟨S16384x1000, .f32⟩
  | .hbm, ⟨111, _⟩ => ⟨S16384x1000, .f32⟩
  | .hbm, ⟨112, _⟩ => ⟨S16384x1000, .f32⟩
  | .hbm, ⟨113, _⟩ => ⟨S_, .f32⟩
  | .hbm, ⟨114, _⟩ => ⟨S16384, .f32⟩
  | .hbm, ⟨115, _⟩ => ⟨S16384, .f32⟩
  | .hbm, ⟨116, _⟩ => ⟨S16384, .f32⟩
  | .hbm, ⟨117, _⟩ => ⟨S_, .f32⟩
  | .hbm, ⟨118, _⟩ => ⟨S_, .f32⟩
  | .hbm, ⟨119, _⟩ => ⟨S_, .f32⟩
  | .hbm, ⟨120, _⟩ => ⟨S_, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_call0_v0 : Ref sig .tc := ⟨.hbm, 19, rfl⟩
abbrev main_call0_cst : Ref sig .tc := ⟨.hbm, 20, rfl⟩
abbrev main_call0_c : Ref sig .tc := ⟨.hbm, 21, rfl⟩
abbrev main_call0_v1_0 : Ref sig .tc := ⟨.hbm, 22, rfl⟩
abbrev main_v11 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_v12 : Ref sig .tc := ⟨.hbm, 29, rfl⟩
abbrev main_cst_2 : Ref sig .tc := ⟨.hbm, 30, rfl⟩
abbrev main_v13 : Ref sig .tc := ⟨.hbm, 31, rfl⟩
abbrev main_v14 : Ref sig .tc := ⟨.hbm, 32, rfl⟩
abbrev main_cst_3 : Ref sig .tc := ⟨.hbm, 33, rfl⟩
abbrev main_v15 : Ref sig .tc := ⟨.hbm, 34, rfl⟩
abbrev main_cst_4 : Ref sig .tc := ⟨.hbm, 35, rfl⟩
abbrev main_v16 : Ref sig .tc := ⟨.hbm, 36, rfl⟩
abbrev main_v17 : Ref sig .tc := ⟨.hbm, 37, rfl⟩
abbrev main_cst_5 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_cst_6 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_cst_7 : Ref sig .tc := ⟨.hbm, 46, rfl⟩
abbrev main_v24 : Ref sig .tc := ⟨.hbm, 47, rfl⟩
abbrev main_cst_8 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_cst_9 : Ref sig .tc := ⟨.hbm, 53, rfl⟩
abbrev main_v29 : Ref sig .tc := ⟨.hbm, 54, rfl⟩
abbrev main_v30 : Ref sig .tc := ⟨.hbm, 55, rfl⟩
abbrev main_cst_10 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_cst_11 : Ref sig .tc := ⟨.hbm, 63, rfl⟩
abbrev main_v37 : Ref sig .tc := ⟨.hbm, 64, rfl⟩
abbrev main_call2_v0 : Ref sig .tc := ⟨.hbm, 65, rfl⟩
abbrev main_call2_cst : Ref sig .tc := ⟨.hbm, 66, rfl⟩
abbrev main_call2_c : Ref sig .tc := ⟨.hbm, 67, rfl⟩
abbrev main_call2_v1_0 : Ref sig .tc := ⟨.hbm, 68, rfl⟩
abbrev main_v38 : Ref sig .tc := ⟨.hbm, 69, rfl⟩
abbrev main_cst_12 : Ref sig .tc := ⟨.hbm, 70, rfl⟩
abbrev main_v39 : Ref sig .tc := ⟨.hbm, 71, rfl⟩
abbrev main_c : Ref sig .tc := ⟨.hbm, 72, rfl⟩
abbrev main_v40 : Ref sig .tc := ⟨.hbm, 73, rfl⟩
abbrev main_v41 : Ref sig .tc := ⟨.hbm, 74, rfl⟩
abbrev main_c_13 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_cst_14 : Ref sig .tc := ⟨.hbm, 80, rfl⟩
abbrev main_v46 : Ref sig .tc := ⟨.hbm, 81, rfl⟩
abbrev main_v47 : Ref sig .tc := ⟨.hbm, 82, rfl⟩
abbrev main_cst_15 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_cst_16 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_call3_cst : Ref sig .tc := ⟨.hbm, 97, rfl⟩
abbrev main_call3_v0 : Ref sig .tc := ⟨.hbm, 98, rfl⟩
abbrev main_call3_cst_0 : Ref sig .tc := ⟨.hbm, 99, rfl⟩
abbrev main_call3_v1 : Ref sig .tc := ⟨.hbm, 100, rfl⟩
abbrev main_call3_v2 : Ref sig .tc := ⟨.hbm, 101, rfl⟩
abbrev main_call3_v3 : Ref sig .tc := ⟨.hbm, 102, rfl⟩
abbrev main_call3_v4 : Ref sig .tc := ⟨.hbm, 103, rfl⟩
abbrev main_call3_v5 : Ref sig .tc := ⟨.hbm, 104, rfl⟩
abbrev main_call3_v6 : Ref sig .tc := ⟨.hbm, 105, rfl⟩
abbrev main_call3_cst_1 : Ref sig .tc := ⟨.hbm, 106, rfl⟩
abbrev main_call3_v7 : Ref sig .tc := ⟨.hbm, 107, rfl⟩
abbrev main_call3_v8 : Ref sig .tc := ⟨.hbm, 108, rfl⟩
abbrev main_call3_v9 : Ref sig .tc := ⟨.hbm, 109, rfl⟩
abbrev main_call3_v10 : Ref sig .tc := ⟨.hbm, 110, rfl⟩
abbrev main_v60 : Ref sig .tc := ⟨.hbm, 111, rfl⟩
abbrev main_v61 : Ref sig .tc := ⟨.hbm, 112, rfl⟩
abbrev main_cst_17 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩
abbrev main_cst_18 : Ref sig .tc := ⟨.hbm, 117, rfl⟩
abbrev main_v65 : Ref sig .tc := ⟨.hbm, 118, rfl⟩
abbrev main_cst_19 : Ref sig .tc := ⟨.hbm, 119, rfl⟩
abbrev main_v66 : Ref sig .tc := ⟨.hbm, 120, rfl⟩

abbrev nD : Nat := 1
abbrev τ : Topo := Topo.v7x

variable {F : FTy → Type} [FloatOps F]
-- ==== Proof.Region0.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

/-! # The first call, over any contents of the buffers at its entry -/

namespace Cert.Kernel.Main

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 4 = 0 :=
  (fun t => by
    have ht : t.val < 4 := Nat.lt_of_lt_of_eq t.isLt N_0
    have e0 : (grid0.coords t 0).val = t.val / 1 % 4 := Pipeline.Grid.coords_val t 0 (by decide) rfl
    simp only [cond0_0, e0]
    word_cmp
   : ∀ t : Fin grid0.N, cond0_0 (grid0.coords t) ↔ t.val % 4 = 0)

abbrev cond0_1 (i : grid0.Coords) : Prop := k0_cond2 i = 1#1
theorem hcond0_1 : ∀ t : Fin cfg0.N, cond0_1 (grid0.coords t) ↔ t.val % 4 = 3 :=
  (fun t => by
    have ht : t.val < 4 := Nat.lt_of_lt_of_eq t.isLt N_0
    have e0 : (grid0.coords t 0).val = t.val / 1 % 4 := Pipeline.Grid.coords_val t 0 (by decide) rfl
    simp only [cond0_1, k0_cond2, e0]
    word_cmp
   : ∀ t : Fin grid0.N, cond0_1 (grid0.coords t) ↔ t.val % 4 = 3)

/-! ## Where the windows are idle (the printed configuration's table `Cfg.idle`) -/

theorem liveAt0_0 : ∀ t : Fin cfg0.N, cfg0.idle 0 (grid0.coords t) = false := fun _ => rfl
theorem liveAt0_1 : ∀ t : Fin cfg0.N, cfg0.idle 1 (grid0.coords t) = false := fun _ => rfl
theorem idleAt0_2_A : ∀ t : Fin cfg0.N, cond0_0 (grid0.coords t) → ¬cond0_1 (grid0.coords t) → cfg0.idle 2 (grid0.coords t) = true := by decide +kernel
theorem noFlush0_2_A : ∀ t : Fin cfg0.N, cond0_0 (grid0.coords t) → ¬cond0_1 (grid0.coords t) → (cfg0.win 2).flush t = false := by decide +kernel
theorem idleAt0_2_B : ∀ t : Fin cfg0.N, ¬cond0_0 (grid0.coords t) → ¬cond0_1 (grid0.coords t) → cfg0.idle 2 (grid0.coords t) = true := by decide +kernel
theorem noFlush0_2_B : ∀ t : Fin cfg0.N, ¬cond0_0 (grid0.coords t) → ¬cond0_1 (grid0.coords t) → (cfg0.win 2).flush t = false := by decide +kernel
theorem liveAt0_2_C : ∀ t : Fin cfg0.N, ¬cond0_0 (grid0.coords t) → cond0_1 (grid0.coords t) → cfg0.idle 2 (grid0.coords t) = false := by decide +kernel

/-! ## The kernel body on any staging memrefs: a subtype the run finds -/

abbrev VO0_2 : View sig .tc .vmem S1x1000x1 .f32 := (Memref.whole cc0_stg2_0 : Memref sig .tc .vmem S1x1000x1 .f32).view
abbrev ms0_0 (t : Fin cfg0.N) : Memref sig .tc .vmem S1000x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1000x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1000x1 .f32 := win0_2.stage (cfg0.slots t 2)
abbrev hs0_2 (t : Fin cfg0.N) : (ms0_2 t).IsWhole := hstage0_2 ((cfg0.slots t 2).cast nbuf0_2)
abbrev scM0_0 : Memref sig .tc .vmem S1000x1 .f32 := Memref.whole cc0_scratch0
abbrev VS0_0 : View sig .tc .vmem S1000x1 .f32 := scM0_0.view

/-- What the first call leaves alone: the second call's staging buffers and the generator register. -/
def Oth0 (c : Dev nD) : sProp 𝕄 :=
  iprop(((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f)) ∗ (∃ r, prngReg c r))

/-- The scoped buffers of the launch and the generator register, the accumulator first. -/
theorem PhiA0_eq (c : Dev nD) :
    (Pipeline.ΦA spec0 c : sProp 𝕄)
      = iprop((∃ d, owns (c : Thread nD τ) scM0_0 fullShare d) ∗ Oth0 (F := F) c) := by
  unfold Pipeline.ΦA Oth0; rw [scopedRest0_eq]; simp only [scM0_0, owns_whole]
  exact BI.equiv_iff.mp ⟨sep_assoc, sep_assoc'⟩

set_option maxHeartbeats 1000000 in
noncomputable def kernelRun0_A (c : Dev nD) (i : grid0.Coords) (arg1 : Memref sig .tc .vmem S1000x4096 .f32) (harg1 : arg1.IsWhole) (arg2 : Memref sig .tc .vmem S1x1000x1 .f32) (harg2 : arg2.IsWhole) (arg3 : Memref sig .tc .vmem S1x1000x1 .f32) (harg3 : arg3.IsWhole) (arg4 : Memref sig .tc .vmem S1000x1 .f32) (harg4 : arg4.IsWhole) (hc0 : cond0_0 i) (hc1 : ¬cond0_1 i)
    (x0 : Vec F S1000x4096 .f32) (x1 : Vec F S1x1000x1 .f32) :
    Σ' (L2 : List (View.Piece (Elt F) S1x1000x1 .f32)), { LS0 : List (View.Piece (Elt F) S1000x1 .f32) //
      ∀ (xi2 : Vec F S1x1000x1 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc0__colsum_body i arg1 harg1 arg2 harg2 arg3 harg3 arg4 harg4) K } := by
  refine ⟨[], ?_, fun xi2 E K => ?run⟩
  case run =>
    simp only [cc0__colsum_body_eq_skeleton]; unfold cc0__colsum_body_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

set_option maxHeartbeats 1000000 in
noncomputable def kernelRun0_B (c : Dev nD) (i : grid0.Coords) (arg1 : Memref sig .tc .vmem S1000x4096 .f32) (harg1 : arg1.IsWhole) (arg2 : Memref sig .tc .vmem S1x1000x1 .f32) (harg2 : arg2.IsWhole) (arg3 : Memref sig .tc .vmem S1x1000x1 .f32) (harg3 : arg3.IsWhole) (arg4 : Memref sig .tc .vmem S1000x1 .f32) (harg4 : arg4.IsWhole) (hc0 : ¬cond0_0 i) (hc1 : ¬cond0_1 i)
    (x0 : Vec F S1000x4096 .f32) (x1 : Vec F S1x1000x1 .f32) (xs0 : Vec F S1000x1 .f32) :
    Σ' (L2 : List (View.Piece (Elt F) S1x1000x1 .f32)), { LS0 : List (View.Piece (Elt F) S1000x1 .f32) //
      ∀ (xi2 : Vec F S1x1000x1 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc0__colsum_body i arg1 harg1 arg2 harg2 arg3 harg3 arg4 harg4) K } := by
  refine ⟨[], ?_, fun xi2 E K => ?run⟩
  case run =>
    simp only [cc0__colsum_body_eq_skeleton]; unfold cc0__colsum_body_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

set_option maxHeartbeats 1000000 in
noncomputable def kernelRun0_C (c : Dev nD) (i : grid0.Coords) (arg1 : Memref sig .tc .vmem S1000x4096 .f32) (harg1 : arg1.IsWhole) (arg2 : Memref sig .tc .vmem S1x1000x1 .f32) (harg2 : arg2.IsWhole) (arg3 : Memref sig .tc .vmem S1x1000x1 .f32) (harg3 : arg3.IsWhole) (arg4 : Memref sig .tc .vmem S1000x1 .f32) (harg4 : arg4.IsWhole) (hc0 : ¬cond0_0 i) (hc1 : cond0_1 i)
    (x0 : Vec F S1000x4096 .f32) (x1 : Vec F S1x1000x1 .f32) (xs0 : Vec F S1000x1 .f32) :
    Σ' (L2 : List (View.Piece (Elt F) S1x1000x1 .f32)), { LS0 : List (View.Piece (Elt F) S1000x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc0__colsum_body i arg1 harg1 arg2 harg2 arg3 harg3 arg4 harg4) K } := by
  refine ⟨?_, ?_, fun E K => ?run⟩
  case run =>
    simp only [cc0__colsum_body_eq_skeleton]; unfold cc0__colsum_body_skel
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

def out0_A_2 (c : Dev nD) (i : grid0.Coords) (arg1 : Memref sig .tc .vmem S1000x4096 .f32) (harg1 : arg1.IsWhole) (arg2 : Memref sig .tc .vmem S1x1000x1 .f32) (harg2 : arg2.IsWhole) (arg3 : Memref sig .tc .vmem S1x1000x1 .f32) (harg3 : arg3.IsWhole) (arg4 : Memref sig .tc .vmem S1000x1 .f32) (harg4 : arg4.IsWhole) (hc0 : cond0_0 i) (hc1 : ¬cond0_1 i)
    (x0 : Vec F S1000x4096 .f32) (x1 : Vec F S1x1000x1 .f32) : Vec F S1x1000x1 .f32 :=
  VO0_2.read (Elt F) (VO0_2.writes (Elt F) VO0_2.junk (kernelRun0_A c i arg1 harg1 arg2 harg2 arg3 harg3 arg4 harg4 hc0 hc1 x0 x1).1)

theorem scover0_A_0 (c : Dev nD) (i : grid0.Coords) (arg1 : Memref sig .tc .vmem S1000x4096 .f32) (harg1 : arg1.IsWhole) (arg2 : Memref sig .tc .vmem S1x1000x1 .f32) (harg2 : arg2.IsWhole) (arg3 : Memref sig .tc .vmem S1x1000x1 .f32) (harg3 : arg3.IsWhole) (arg4 : Memref sig .tc .vmem S1000x1 .f32) (harg4 : arg4.IsWhole) (hc0 : cond0_0 i) (hc1 : ¬cond0_1 i)
    (x0 : Vec F S1000x4096 .f32) (x1 : Vec F S1x1000x1 .f32) (y : S1000x1.Idx) :
    ∃ pc ∈ (kernelRun0_A c i arg1 harg1 arg2 harg2 arg3 harg3 arg4 harg4 hc0 hc1 x0 x1).2.1, y ∈ pc.1.set :=
  View.cover_of_tiledL (kernelRun0_A c i arg1 harg1 arg2 harg2 arg3 harg3 arg4 harg4 hc0 hc1 x0 x1).2.1 S1000x1.size (by sl_kernel_rfl) y

def sout0_A_0 (c : Dev nD) (i : grid0.Coords) (arg1 : Memref sig .tc .vmem S1000x4096 .f32) (harg1 : arg1.IsWhole) (arg2 : Memref sig .tc .vmem S1x1000x1 .f32) (harg2 : arg2.IsWhole) (arg3 : Memref sig .tc .vmem S1x1000x1 .f32) (harg3 : arg3.IsWhole) (arg4 : Memref sig .tc .vmem S1000x1 .f32) (harg4 : arg4.IsWhole) (hc0 : cond0_0 i) (hc1 : ¬cond0_1 i)
    (x0 : Vec F S1000x4096 .f32) (x1 : Vec F S1x1000x1 .f32) : Vec F S1000x1 .f32 :=
  VS0_0.read (Elt F) (VS0_0.writes (Elt F) VS0_0.junk (kernelRun0_A c i arg1 harg1 arg2 harg2 arg3 harg3 arg4 harg4 hc0 hc1 x0 x1).2.1)

def out0_B_2 (c : Dev nD) (i : grid0.Coords) (arg1 : Memref sig .tc .vmem S1000x4096 .f32) (harg1 : arg1.IsWhole) (arg2 : Memref sig .tc .vmem S1x1000x1 .f32) (harg2 : arg2.IsWhole) (arg3 : Memref sig .tc .vmem S1x1000x1 .f32) (harg3 : arg3.IsWhole) (arg4 : Memref sig .tc .vmem S1000x1 .f32) (harg4 : arg4.IsWhole) (hc0 : ¬cond0_0 i) (hc1 : ¬cond0_1 i)
    (x0 : Vec F S1000x4096 .f32) (x1 : Vec F S1x1000x1 .f32) (xs0 : Vec F S1000x1 .f32) : Vec F S1x1000x1 .f32 :=
  VO0_2.read (Elt F) (VO0_2.writes (Elt F) VO0_2.junk (kernelRun0_B c i arg1 harg1 arg2 harg2 arg3 harg3 arg4 harg4 hc0 hc1 x0 x1 xs0).1)

theorem scover0_B_0 (c : Dev nD) (i : grid0.Coords) (arg1 : Memref sig .tc .vmem S1000x4096 .f32) (harg1 : arg1.IsWhole) (arg2 : Memref sig .tc .vmem S1x1000x1 .f32) (harg2 : arg2.IsWhole) (arg3 : Memref sig .tc .vmem S1x1000x1 .f32) (harg3 : arg3.IsWhole) (arg4 : Memref sig .tc .vmem S1000x1 .f32) (harg4 : arg4.IsWhole) (hc0 : ¬cond0_0 i) (hc1 : ¬cond0_1 i)
    (x0 : Vec F S1000x4096 .f32) (x1 : Vec F S1x1000x1 .f32) (xs0 : Vec F S1000x1 .f32) (y : S1000x1.Idx) :
    ∃ pc ∈ (kernelRun0_B c i arg1 harg1 arg2 harg2 arg3 harg3 arg4 harg4 hc0 hc1 x0 x1 xs0).2.1, y ∈ pc.1.set :=
  View.cover_of_tiledL (kernelRun0_B c i arg1 harg1 arg2 harg2 arg3 harg3 arg4 harg4 hc0 hc1 x0 x1 xs0).2.1 S1000x1.size (by sl_kernel_rfl) y

def sout0_B_0 (c : Dev nD) (i : grid0.Coords) (arg1 : Memref sig .tc .vmem S1000x4096 .f32) (harg1 : arg1.IsWhole) (arg2 : Memref sig .tc .vmem S1x1000x1 .f32) (harg2 : arg2.IsWhole) (arg3 : Memref sig .tc .vmem S1x1000x1 .f32) (harg3 : arg3.IsWhole) (arg4 : Memref sig .tc .vmem S1000x1 .f32) (harg4 : arg4.IsWhole) (hc0 : ¬cond0_0 i) (hc1 : ¬cond0_1 i)
    (x0 : Vec F S1000x4096 .f32) (x1 : Vec F S1x1000x1 .f32) (xs0 : Vec F S1000x1 .f32) : Vec F S1000x1 .f32 :=
  VS0_0.read (Elt F) (VS0_0.writes (Elt F) VS0_0.junk (kernelRun0_B c i arg1 harg1 arg2 harg2 arg3 harg3 arg4 harg4 hc0 hc1 x0 x1 xs0).2.1)

theorem cover0_C_2 (c : Dev nD) (i : grid0.Coords) (arg1 : Memref sig .tc .vmem S1000x4096 .f32) (harg1 : arg1.IsWhole) (arg2 : Memref sig .tc .vmem S1x1000x1 .f32) (harg2 : arg2.IsWhole) (arg3 : Memref sig .tc .vmem S1x1000x1 .f32) (harg3 : arg3.IsWhole) (arg4 : Memref sig .tc .vmem S1000x1 .f32) (harg4 : arg4.IsWhole) (hc0 : ¬cond0_0 i) (hc1 : cond0_1 i)
    (x0 : Vec F S1000x4096 .f32) (x1 : Vec F S1x1000x1 .f32) (xs0 : Vec F S1000x1 .f32) (y : S1x1000x1.Idx) :
    ∃ pc ∈ (kernelRun0_C c i arg1 harg1 arg2 harg2 arg3 harg3 arg4 harg4 hc0 hc1 x0 x1 xs0).1, y ∈ pc.1.set :=
  View.cover_of_tiledL (kernelRun0_C c i arg1 harg1 arg2 harg2 arg3 harg3 arg4 harg4 hc0 hc1 x0 x1 xs0).1 S1x1000x1.size (by sl_kernel_rfl) y

def out0_C_2 (c : Dev nD) (i : grid0.Coords) (arg1 : Memref sig .tc .vmem S1000x4096 .f32) (harg1 : arg1.IsWhole) (arg2 : Memref sig .tc .vmem S1x1000x1 .f32) (harg2 : arg2.IsWhole) (arg3 : Memref sig .tc .vmem S1x1000x1 .f32) (harg3 : arg3.IsWhole) (arg4 : Memref sig .tc .vmem S1000x1 .f32) (harg4 : arg4.IsWhole) (hc0 : ¬cond0_0 i) (hc1 : cond0_1 i)
    (x0 : Vec F S1000x4096 .f32) (x1 : Vec F S1x1000x1 .f32) (xs0 : Vec F S1000x1 .f32) : Vec F S1x1000x1 .f32 :=
  VO0_2.read (Elt F) (VO0_2.writes (Elt F) VO0_2.junk (kernelRun0_C c i arg1 harg1 arg2 harg2 arg3 harg3 arg4 harg4 hc0 hc1 x0 x1 xs0).1)

theorem scover0_C_0 (c : Dev nD) (i : grid0.Coords) (arg1 : Memref sig .tc .vmem S1000x4096 .f32) (harg1 : arg1.IsWhole) (arg2 : Memref sig .tc .vmem S1x1000x1 .f32) (harg2 : arg2.IsWhole) (arg3 : Memref sig .tc .vmem S1x1000x1 .f32) (harg3 : arg3.IsWhole) (arg4 : Memref sig .tc .vmem S1000x1 .f32) (harg4 : arg4.IsWhole) (hc0 : ¬cond0_0 i) (hc1 : cond0_1 i)
    (x0 : Vec F S1000x4096 .f32) (x1 : Vec F S1x1000x1 .f32) (xs0 : Vec F S1000x1 .f32) (y : S1000x1.Idx) :
    ∃ pc ∈ (kernelRun0_C c i arg1 harg1 arg2 harg2 arg3 harg3 arg4 harg4 hc0 hc1 x0 x1 xs0).2.1, y ∈ pc.1.set :=
  View.cover_of_tiledL (kernelRun0_C c i arg1 harg1 arg2 harg2 arg3 harg3 arg4 harg4 hc0 hc1 x0 x1 xs0).2.1 S1000x1.size (by sl_kernel_rfl) y

def sout0_C_0 (c : Dev nD) (i : grid0.Coords) (arg1 : Memref sig .tc .vmem S1000x4096 .f32) (harg1 : arg1.IsWhole) (arg2 : Memref sig .tc .vmem S1x1000x1 .f32) (harg2 : arg2.IsWhole) (arg3 : Memref sig .tc .vmem S1x1000x1 .f32) (harg3 : arg3.IsWhole) (arg4 : Memref sig .tc .vmem S1000x1 .f32) (harg4 : arg4.IsWhole) (hc0 : ¬cond0_0 i) (hc1 : cond0_1 i)
    (x0 : Vec F S1000x4096 .f32) (x1 : Vec F S1x1000x1 .f32) (xs0 : Vec F S1000x1 .f32) : Vec F S1000x1 .f32 :=
  VS0_0.read (Elt F) (VS0_0.writes (Elt F) VS0_0.junk (kernelRun0_C c i arg1 harg1 arg2 harg2 arg3 harg3 arg4 harg4 hc0 hc1 x0 x1 xs0).2.1)

/-! ## What the outputs hold after each point -/

def outsAt0 (c : Dev nD) : (n : ℕ) → n < cfg0.N → Vec F S1x1000x1 .f32 × Vec F S1000x1 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 4 = 0 then
      if h1 : (n + 1) % 4 = 3 then
        False.elim (by have hN : n + 1 < 4 := lt_of_lt_of_eq hn (show cfg0.N = 4 from N_0); omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 4 = 3 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2)

theorem outsAt0_A (c : Dev nD) (t : Fin cfg0.N) (h0 : t.val % 4 = 0) (h1 : ¬t.val % 4 = 3) :
    outsAt0 V c t.val t.isLt = (out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t), sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 V c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 V c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2)) ∗ Oth0 (F := F) c)

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2)) ∗ Oth0 (F := F) c) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2)) ∗ Oth0 (F := F) c) := by
  cases n with
  | zero => exact absurd rfl hz
  | succ n => rfl

/-! ## The pipeline's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS V c t.val (Nat.le_of_lt_succ t.isLt)
  q _ := fullShare
  owed _ := 0

theorem A0_eq (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; exact Pipeline.Dat.Φ_castSucc (PhiS V c) t

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

theorem before0_0 (c : Dev nD) (t : Fin cfg0.N) (d) : (dat0 V c).before 0 t d = iblk0 V c 0 t :=
  before0_0_of V (dat0 V c) (A0_eq V c 0) (after0_0 V c) t d
theorem before0_1 (c : Dev nD) (t : Fin cfg0.N) (d) : (dat0 V c).before 1 t d = iblk0 V c 1 t :=
  before0_1_of V (dat0 V c) (A0_eq V c 1) (after0_1 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  have hN : t.val < 4 := lt_of_lt_of_eq t.isLt (show cfg0.N = 4 from N_0)
  by_cases h0 : t.val % 4 = 0
  · by_cases h1 : t.val % 4 = 3
    · exfalso; omega
    · rw [show (dat0 V c).leavesExact 0 t = owns (c : Thread nD τ) (ms0_0 t) fullShare ((dat0 V c).after 0 t) from by
      unfold Dat.leavesExact; rw [liveAt0_0 t], after0_0]
      rw [show (dat0 V c).leavesExact 1 t = owns (c : Thread nD τ) (ms0_1 t) fullShare ((dat0 V c).after 1 t) from by
      unfold Dat.leavesExact; rw [liveAt0_1 t], after0_1]
      rw [Dat.leavesExact_idle (dat0 V c) 2 t (idleAt0_2_A t ((hcond0_0 t).mpr h0) (fun h => h1 ((hcond0_1 t).mp h))) (noFlush0_2_A t ((hcond0_0 t).mpr h0) (fun h => h1 ((hcond0_1 t).mp h)))]
      by_cases hz : t.val = 0
      · rw [PhiS_castSucc V c t, PhiS_zero V c _ _ hz, PhiA0_eq]
        rw [outsAt0_A V c t h0 h1]
        unfold sout0_A_0; (try dsimp only)
        iintro ⟨⟨HS0, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk0 V c 0 t) (iblk0 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _)
          iexact Hg
        isplitl [Ho]; · iexact Ho
        isplitl [H0]; · iexact H0
        isplitl [H1]; · iexact H1
        iexists _; iexact H2
      · exfalso; have hN : t.val < 4 := lt_of_lt_of_eq t.isLt (show cfg0.N = 4 from N_0); omega
  · by_cases h1 : t.val % 4 = 3
    · rw [show (dat0 V c).leavesExact 0 t = owns (c : Thread nD τ) (ms0_0 t) fullShare ((dat0 V c).after 0 t) from by
      unfold Dat.leavesExact; rw [liveAt0_0 t], after0_0]
      rw [show (dat0 V c).leavesExact 1 t = owns (c : Thread nD τ) (ms0_1 t) fullShare ((dat0 V c).after 1 t) from by
      unfold Dat.leavesExact; rw [liveAt0_1 t], after0_1]
      rw [show (dat0 V c).leavesExact 2 t = owns (c : Thread nD τ) (ms0_2 t) fullShare ((dat0 V c).after 2 t) from by
      unfold Dat.leavesExact; rw [liveAt0_2_C t (fun h => h0 ((hcond0_0 t).mp h)) ((hcond0_1 t).mpr h1)], after0_2]
      by_cases hz : t.val = 0
      · exfalso; have hN : t.val < 4 := lt_of_lt_of_eq t.isLt (show cfg0.N = 4 from N_0); omega
      · rw [PhiS_castSucc V c t, PhiS_pos V c _ _ hz]
        rw [outsAt0_C V c t h0 h1]
        unfold out0_C_2 sout0_C_0; (try dsimp only)
        iintro ⟨⟨HS0, Hg⟩, Ho, ⟨%d0, H0⟩, ⟨%d1, H1⟩, ⟨%d2, H2⟩⟩
        iapply ((kernelRun0_C c (grid0.coords t) _ _ _ _ _ _ _ _ (fun h => h0 ((hcond0_0 t).mp h)) ((hcond0_1 t).mpr h1) (iblk0 V c 0 t) (iblk0 V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HS0 Hg]
        · isplitl [HS0]
          · unfold owns; iexists _; isplitr
            swap; · iexact HS0
            ipureintro; exact View.read_writes_of_cover _ _ _ _ _ (scover0_C_0 c _ _ _ _ _ _ _ _ _ _ _ _ _ _)
          iexact Hg
        isplitl [Ho]; · iexact Ho
        isplitl [H0]; · iexact H0
        isplitl [H1]; · iexact H1
        unfold owns; iexists _; isplitr
        swap; · iexact H2
        ipureintro; exact View.read_writes_of_cover _ _ _ _ _ (cover0_C_2 c _ _ _ _ _ _ _ _ _ _ _ _ _ _)
    · rw [show (dat0 V c).leavesExact 0 t = owns (c : Thread nD τ) (ms0_0 t) fullShare ((dat0 V c).after 0 t) from by
      unfold Dat.leavesExact; rw [liveAt0_0 t], after0_0]
      rw [show (dat0 V c).leavesExact 1 t = owns (c : Thread nD τ) (ms0_1 t) fullShare ((dat0 V c).after 1 t) from by
      unfold Dat.leavesExact; rw [liveAt0_1 t], after0_1]
      rw [Dat.leavesExact_idle (dat0 V c) 2 t (idleAt0_2_B t (fun h => h0 ((hcond0_0 t).mp h)) (fun h => h1 ((hcond0_1 t).mp h))) (noFlush0_2_B t (fun h => h0 ((hcond0_0 t).mp h)) (fun h => h1 ((hcond0_1 t).mp h)))]
      by_cases hz : t.val = 0
      · exfalso; have hN : t.val < 4 := lt_of_lt_of_eq t.isLt (show cfg0.N = 4 from N_0); omega
      · rw [PhiS_castSucc V c t, PhiS_pos V c _ _ hz]
        rw [outsAt0_B V c t h0 h1]
        unfold sout0_B_0; (try dsimp only)
        iintro ⟨⟨HS0, Hg⟩, Ho, ⟨%d0, H0⟩, ⟨%d1, H1⟩, ⟨%d2, H2⟩⟩
        iapply ((kernelRun0_B c (grid0.coords t) _ _ _ _ _ _ _ _ (fun h => h0 ((hcond0_0 t).mp h)) (fun h => h1 ((hcond0_1 t).mp h)) (iblk0 V c 0 t) (iblk0 V c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _ _ _ _)
          iexact Hg
        isplitl [Ho]; · iexact Ho
        isplitl [H0]; · iexact H0
        isplitl [H1]; · iexact H1
        iexists _; iexact H2

theorem defs₀_row0 (t : Fin cfg0.N) :
    defs₀ (F := F) .tc cfg0.body (cfg0.bodyArgs t (cfg0.slots t)) = bodyAt0 t := by
  unfold defs₀; rw [Defs.onTc_tc]

theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

theorem Phi_out (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨HS0, Hg⟩
  isplitl [HS0]
  · iexists _; iexact HS0
  iexact Hg

theorem hout0 (c : Dev nD) : (dat0 V c).Φ (Fin.last cfg0.N) ⊢ Pipeline.ΦA spec0 c :=
  Phi_out V c _ (by rw [Fin.val_last]; have : cfg0.N = 4 := N_0; omega)

end Cert.Kernel.Main

end
-- ==== Proof.Region1.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

/-! # The second call, over any contents of the buffers at its entry -/

namespace Cert.Kernel.Main

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val % 16 = 0 :=
  (fun t => by
    have ht : t.val < 16 := Nat.lt_of_lt_of_eq t.isLt N_1
    have e0 : (grid1.coords t 0).val = t.val / 1 % 16 := Pipeline.Grid.coords_val t 0 (by decide) rfl
    simp only [cond1_0, e0]
    word_cmp
   : ∀ t : Fin grid1.N, cond1_0 (grid1.coords t) ↔ t.val % 16 = 0)

/-! ## The kernel body on any staging memrefs: a subtype the run finds -/

abbrev VO1_5 : View sig .tc .vmem S1x1x1 .f32 := (Memref.whole cc1_stg5_0 : Memref sig .tc .vmem S1x1x1 .f32).view
abbrev VO1_6 : View sig .tc .vmem S1x1000x1 .f32 := (Memref.whole cc1_stg6_0 : Memref sig .tc .vmem S1x1000x1 .f32).view
abbrev ms1_0 (t : Fin cfg1.N) : Memref sig .tc .vmem S1024x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1000x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1000x2048 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1000x1 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1x1 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x1000x1 .f32 := win1_6.stage (cfg1.slots t 6)
abbrev hs1_6 (t : Fin cfg1.N) : (ms1_6 t).IsWhole := hstage1_6 ((cfg1.slots t 6).cast nbuf1_6)

set_option maxHeartbeats 1000000 in
noncomputable def kernelRun1_A (c : Dev nD) (i : grid1.Coords) (arg1 : Memref sig .tc .vmem S1024x2048 .f32) (harg1 : arg1.IsWhole) (arg2 : Memref sig .tc .vmem S1000x1024 .f32) (harg2 : arg2.IsWhole) (arg3 : Memref sig .tc .vmem S1000x2048 .f32) (harg3 : arg3.IsWhole) (arg4 : Memref sig .tc .vmem S1x1024 .f32) (harg4 : arg4.IsWhole) (arg5 : Memref sig .tc .vmem S1x1000x1 .f32) (harg5 : arg5.IsWhole) (arg6 : Memref sig .tc .vmem S1x1x1 .f32) (harg6 : arg6.IsWhole) (arg7 : Memref sig .tc .vmem S1x1000x1 .f32) (harg7 : arg7.IsWhole) (hc0 : cond1_0 i)
    (x0 : Vec F S1024x2048 .f32) (x1 : Vec F S1000x1024 .f32) (x2 : Vec F S1000x2048 .f32) (x3 : Vec F S1x1024 .f32) (x4 : Vec F S1x1000x1 .f32) :
    Σ' (L5 : List (View.Piece (Elt F) S1x1x1 .f32)), { L6 : List (View.Piece (Elt F) S1x1000x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6)) -∗ K ⟨⟩))
          ⊢ wp frame (wpE (defs₀ (F := F)) Variants.none c none) E (cc1__main_body i arg1 harg1 arg2 harg2 arg3 harg3 arg4 harg4 arg5 harg5 arg6 harg6 arg7 harg7) K } := by
  refine ⟨?_, ?_, fun E K => ?run⟩
  case run =>
    simp only [cc1__main_body_eq_skeleton]; unfold cc1__main_body_skel
    simp only [k1_part1_eq_skeleton, k1_part2_eq_skeleton, k1_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; iexact H6

set_option maxHeartbeats 1000000 in
noncomputable def kernelRun1_B (c : Dev nD) (i : grid1.Coords) (arg1 : Memref sig .tc .vmem S1024x2048 .f32) (harg1 : arg1.IsWhole) (arg2 : Memref sig .tc .vmem S1000x1024 .f32) (harg2 : arg2.IsWhole) (arg3 : Memref sig .tc .vmem S1000x2048 .f32) (harg3 : arg3.IsWhole) (arg4 : Memref sig .tc .vmem S1x1024 .f32) (harg4 : arg4.IsWhole) (arg5 : Memref sig .tc .vmem S1x1000x1 .f32) (harg5 : arg5.IsWhole) (arg6 : Memref sig .tc .vmem S1x1x1 .f32) (harg6 : arg6.IsWhole) (arg7 : Memref sig .tc .vmem S1x1000x1 .f32) (harg7 : arg7.IsWhole) (hc0 : ¬cond1_0 i)
    (x0 : Vec F S1024x2048 .f32) (x1 : Vec F S1000x1024 .f32) (x2 : Vec F S1000x2048 .f32) (x3 : Vec F S1x1024 .f32) (x4 : Vec F S1x1000x1 .f32) (xo5 : Vec F S1x1x1 .f32) (xo6 : Vec F S1x1000x1 .f32) :
    Σ' (L5 : List (View.Piece (Elt F) S1x1x1 .f32)), { L6 : List (View.Piece (Elt F) S1x1000x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xo5 ∗ owns (c : Thread nD τ) arg7 fullShare xo6
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6)) -∗ K ⟨⟩))
          ⊢ wp frame (wpE (defs₀ (F := F)) Variants.none c none) E (cc1__main_body i arg1 harg1 arg2 harg2 arg3 harg3 arg4 harg4 arg5 harg5 arg6 harg6 arg7 harg7) K } := by
  refine ⟨?_, ?_, fun E K => ?run⟩
  case run =>
    simp only [cc1__main_body_eq_skeleton]; unfold cc1__main_body_skel
    simp only [k1_part1_eq_skeleton, k1_part2_eq_skeleton, k1_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; iexact H6

theorem cover1_A_5 (c : Dev nD) (i : grid1.Coords) (arg1 : Memref sig .tc .vmem S1024x2048 .f32) (harg1 : arg1.IsWhole) (arg2 : Memref sig .tc .vmem S1000x1024 .f32) (harg2 : arg2.IsWhole) (arg3 : Memref sig .tc .vmem S1000x2048 .f32) (harg3 : arg3.IsWhole) (arg4 : Memref sig .tc .vmem S1x1024 .f32) (harg4 : arg4.IsWhole) (arg5 : Memref sig .tc .vmem S1x1000x1 .f32) (harg5 : arg5.IsWhole) (arg6 : Memref sig .tc .vmem S1x1x1 .f32) (harg6 : arg6.IsWhole) (arg7 : Memref sig .tc .vmem S1x1000x1 .f32) (harg7 : arg7.IsWhole) (hc0 : cond1_0 i)
    (x0 : Vec F S1024x2048 .f32) (x1 : Vec F S1000x1024 .f32) (x2 : Vec F S1000x2048 .f32) (x3 : Vec F S1x1024 .f32) (x4 : Vec F S1x1000x1 .f32) (y : S1x1x1.Idx) :
    ∃ pc ∈ (kernelRun1_A c i arg1 harg1 arg2 harg2 arg3 harg3 arg4 harg4 arg5 harg5 arg6 harg6 arg7 harg7 hc0 x0 x1 x2 x3 x4).1, y ∈ pc.1.set :=
  View.cover_of_tiledL (kernelRun1_A c i arg1 harg1 arg2 harg2 arg3 harg3 arg4 harg4 arg5 harg5 arg6 harg6 arg7 harg7 hc0 x0 x1 x2 x3 x4).1 S1x1x1.size (by sl_kernel_rfl) y

def out1_A_5 (c : Dev nD) (i : grid1.Coords) (arg1 : Memref sig .tc .vmem S1024x2048 .f32) (harg1 : arg1.IsWhole) (arg2 : Memref sig .tc .vmem S1000x1024 .f32) (harg2 : arg2.IsWhole) (arg3 : Memref sig .tc .vmem S1000x2048 .f32) (harg3 : arg3.IsWhole) (arg4 : Memref sig .tc .vmem S1x1024 .f32) (harg4 : arg4.IsWhole) (arg5 : Memref sig .tc .vmem S1x1000x1 .f32) (harg5 : arg5.IsWhole) (arg6 : Memref sig .tc .vmem S1x1x1 .f32) (harg6 : arg6.IsWhole) (arg7 : Memref sig .tc .vmem S1x1000x1 .f32) (harg7 : arg7.IsWhole) (hc0 : cond1_0 i)
    (x0 : Vec F S1024x2048 .f32) (x1 : Vec F S1000x1024 .f32) (x2 : Vec F S1000x2048 .f32) (x3 : Vec F S1x1024 .f32) (x4 : Vec F S1x1000x1 .f32) : Vec F S1x1x1 .f32 :=
  VO1_5.read (Elt F) (VO1_5.writes (Elt F) VO1_5.junk (kernelRun1_A c i arg1 harg1 arg2 harg2 arg3 harg3 arg4 harg4 arg5 harg5 arg6 harg6 arg7 harg7 hc0 x0 x1 x2 x3 x4).1)

theorem cover1_A_6 (c : Dev nD) (i : grid1.Coords) (arg1 : Memref sig .tc .vmem S1024x2048 .f32) (harg1 : arg1.IsWhole) (arg2 : Memref sig .tc .vmem S1000x1024 .f32) (harg2 : arg2.IsWhole) (arg3 : Memref sig .tc .vmem S1000x2048 .f32) (harg3 : arg3.IsWhole) (arg4 : Memref sig .tc .vmem S1x1024 .f32) (harg4 : arg4.IsWhole) (arg5 : Memref sig .tc .vmem S1x1000x1 .f32) (harg5 : arg5.IsWhole) (arg6 : Memref sig .tc .vmem S1x1x1 .f32) (harg6 : arg6.IsWhole) (arg7 : Memref sig .tc .vmem S1x1000x1 .f32) (harg7 : arg7.IsWhole) (hc0 : cond1_0 i)
    (x0 : Vec F S1024x2048 .f32) (x1 : Vec F S1000x1024 .f32) (x2 : Vec F S1000x2048 .f32) (x3 : Vec F S1x1024 .f32) (x4 : Vec F S1x1000x1 .f32) (y : S1x1000x1.Idx) :
    ∃ pc ∈ (kernelRun1_A c i arg1 harg1 arg2 harg2 arg3 harg3 arg4 harg4 arg5 harg5 arg6 harg6 arg7 harg7 hc0 x0 x1 x2 x3 x4).2.1, y ∈ pc.1.set :=
  View.cover_of_tiledL (kernelRun1_A c i arg1 harg1 arg2 harg2 arg3 harg3 arg4 harg4 arg5 harg5 arg6 harg6 arg7 harg7 hc0 x0 x1 x2 x3 x4).2.1 S1x1000x1.size (by sl_kernel_rfl) y

def out1_A_6 (c : Dev nD) (i : grid1.Coords) (arg1 : Memref sig .tc .vmem S1024x2048 .f32) (harg1 : arg1.IsWhole) (arg2 : Memref sig .tc .vmem S1000x1024 .f32) (harg2 : arg2.IsWhole) (arg3 : Memref sig .tc .vmem S1000x2048 .f32) (harg3 : arg3.IsWhole) (arg4 : Memref sig .tc .vmem S1x1024 .f32) (harg4 : arg4.IsWhole) (arg5 : Memref sig .tc .vmem S1x1000x1 .f32) (harg5 : arg5.IsWhole) (arg6 : Memref sig .tc .vmem S1x1x1 .f32) (harg6 : arg6.IsWhole) (arg7 : Memref sig .tc .vmem S1x1000x1 .f32) (harg7 : arg7.IsWhole) (hc0 : cond1_0 i)
    (x0 : Vec F S1024x2048 .f32) (x1 : Vec F S1000x1024 .f32) (x2 : Vec F S1000x2048 .f32) (x3 : Vec F S1x1024 .f32) (x4 : Vec F S1x1000x1 .f32) : Vec F S1x1000x1 .f32 :=
  VO1_6.read (Elt F) (VO1_6.writes (Elt F) VO1_6.junk (kernelRun1_A c i arg1 harg1 arg2 harg2 arg3 harg3 arg4 harg4 arg5 harg5 arg6 harg6 arg7 harg7 hc0 x0 x1 x2 x3 x4).2.1)

theorem cover1_B_5 (c : Dev nD) (i : grid1.Coords) (arg1 : Memref sig .tc .vmem S1024x2048 .f32) (harg1 : arg1.IsWhole) (arg2 : Memref sig .tc .vmem S1000x1024 .f32) (harg2 : arg2.IsWhole) (arg3 : Memref sig .tc .vmem S1000x2048 .f32) (harg3 : arg3.IsWhole) (arg4 : Memref sig .tc .vmem S1x1024 .f32) (harg4 : arg4.IsWhole) (arg5 : Memref sig .tc .vmem S1x1000x1 .f32) (harg5 : arg5.IsWhole) (arg6 : Memref sig .tc .vmem S1x1x1 .f32) (harg6 : arg6.IsWhole) (arg7 : Memref sig .tc .vmem S1x1000x1 .f32) (harg7 : arg7.IsWhole) (hc0 : ¬cond1_0 i)
    (x0 : Vec F S1024x2048 .f32) (x1 : Vec F S1000x1024 .f32) (x2 : Vec F S1000x2048 .f32) (x3 : Vec F S1x1024 .f32) (x4 : Vec F S1x1000x1 .f32) (xo5 : Vec F S1x1x1 .f32) (xo6 : Vec F S1x1000x1 .f32) (y : S1x1x1.Idx) :
    ∃ pc ∈ (kernelRun1_B c i arg1 harg1 arg2 harg2 arg3 harg3 arg4 harg4 arg5 harg5 arg6 harg6 arg7 harg7 hc0 x0 x1 x2 x3 x4 xo5 xo6).1, y ∈ pc.1.set :=
  View.cover_of_tiledL (kernelRun1_B c i arg1 harg1 arg2 harg2 arg3 harg3 arg4 harg4 arg5 harg5 arg6 harg6 arg7 harg7 hc0 x0 x1 x2 x3 x4 xo5 xo6).1 S1x1x1.size (by sl_kernel_rfl) y

def out1_B_5 (c : Dev nD) (i : grid1.Coords) (arg1 : Memref sig .tc .vmem S1024x2048 .f32) (harg1 : arg1.IsWhole) (arg2 : Memref sig .tc .vmem S1000x1024 .f32) (harg2 : arg2.IsWhole) (arg3 : Memref sig .tc .vmem S1000x2048 .f32) (harg3 : arg3.IsWhole) (arg4 : Memref sig .tc .vmem S1x1024 .f32) (harg4 : arg4.IsWhole) (arg5 : Memref sig .tc .vmem S1x1000x1 .f32) (harg5 : arg5.IsWhole) (arg6 : Memref sig .tc .vmem S1x1x1 .f32) (harg6 : arg6.IsWhole) (arg7 : Memref sig .tc .vmem S1x1000x1 .f32) (harg7 : arg7.IsWhole) (hc0 : ¬cond1_0 i)
    (x0 : Vec F S1024x2048 .f32) (x1 : Vec F S1000x1024 .f32) (x2 : Vec F S1000x2048 .f32) (x3 : Vec F S1x1024 .f32) (x4 : Vec F S1x1000x1 .f32) (xo5 : Vec F S1x1x1 .f32) (xo6 : Vec F S1x1000x1 .f32) : Vec F S1x1x1 .f32 :=
  VO1_5.read (Elt F) (VO1_5.writes (Elt F) VO1_5.junk (kernelRun1_B c i arg1 harg1 arg2 harg2 arg3 harg3 arg4 harg4 arg5 harg5 arg6 harg6 arg7 harg7 hc0 x0 x1 x2 x3 x4 xo5 xo6).1)

theorem cover1_B_6 (c : Dev nD) (i : grid1.Coords) (arg1 : Memref sig .tc .vmem S1024x2048 .f32) (harg1 : arg1.IsWhole) (arg2 : Memref sig .tc .vmem S1000x1024 .f32) (harg2 : arg2.IsWhole) (arg3 : Memref sig .tc .vmem S1000x2048 .f32) (harg3 : arg3.IsWhole) (arg4 : Memref sig .tc .vmem S1x1024 .f32) (harg4 : arg4.IsWhole) (arg5 : Memref sig .tc .vmem S1x1000x1 .f32) (harg5 : arg5.IsWhole) (arg6 : Memref sig .tc .vmem S1x1x1 .f32) (harg6 : arg6.IsWhole) (arg7 : Memref sig .tc .vmem S1x1000x1 .f32) (harg7 : arg7.IsWhole) (hc0 : ¬cond1_0 i)
    (x0 : Vec F S1024x2048 .f32) (x1 : Vec F S1000x1024 .f32) (x2 : Vec F S1000x2048 .f32) (x3 : Vec F S1x1024 .f32) (x4 : Vec F S1x1000x1 .f32) (xo5 : Vec F S1x1x1 .f32) (xo6 : Vec F S1x1000x1 .f32) (y : S1x1000x1.Idx) :
    ∃ pc ∈ (kernelRun1_B c i arg1 harg1 arg2 harg2 arg3 harg3 arg4 harg4 arg5 harg5 arg6 harg6 arg7 harg7 hc0 x0 x1 x2 x3 x4 xo5 xo6).2.1, y ∈ pc.1.set :=
  View.cover_of_tiledL (kernelRun1_B c i arg1 harg1 arg2 harg2 arg3 harg3 arg4 harg4 arg5 harg5 arg6 harg6 arg7 harg7 hc0 x0 x1 x2 x3 x4 xo5 xo6).2.1 S1x1000x1.size (by sl_kernel_rfl) y

def out1_B_6 (c : Dev nD) (i : grid1.Coords) (arg1 : Memref sig .tc .vmem S1024x2048 .f32) (harg1 : arg1.IsWhole) (arg2 : Memref sig .tc .vmem S1000x1024 .f32) (harg2 : arg2.IsWhole) (arg3 : Memref sig .tc .vmem S1000x2048 .f32) (harg3 : arg3.IsWhole) (arg4 : Memref sig .tc .vmem S1x1024 .f32) (harg4 : arg4.IsWhole) (arg5 : Memref sig .tc .vmem S1x1000x1 .f32) (harg5 : arg5.IsWhole) (arg6 : Memref sig .tc .vmem S1x1x1 .f32) (harg6 : arg6.IsWhole) (arg7 : Memref sig .tc .vmem S1x1000x1 .f32) (harg7 : arg7.IsWhole) (hc0 : ¬cond1_0 i)
    (x0 : Vec F S1024x2048 .f32) (x1 : Vec F S1000x1024 .f32) (x2 : Vec F S1000x2048 .f32) (x3 : Vec F S1x1024 .f32) (x4 : Vec F S1x1000x1 .f32) (xo5 : Vec F S1x1x1 .f32) (xo6 : Vec F S1x1000x1 .f32) : Vec F S1x1000x1 .f32 :=
  VO1_6.read (Elt F) (VO1_6.writes (Elt F) VO1_6.junk (kernelRun1_B c i arg1 harg1 arg2 harg2 arg3 harg3 arg4 harg4 arg5 harg5 arg6 harg6 arg7 harg7 hc0 x0 x1 x2 x3 x4 xo5 xo6).2.1)

/-! ## What the outputs hold after each point -/

def outsAt1 (c : Dev nD) : (n : ℕ) → n < cfg1.N → Vec F S1x1x1 .f32 × Vec F S1x1000x1 .f32
  | 0, hn => (out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩) (iblk1 V c 4 ⟨0, hn⟩), out1_A_6 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩) (iblk1 V c 4 ⟨0, hn⟩))
  | n + 1, hn =>
    if h0 : (n + 1) % 16 = 0 then
      (out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩), out1_A_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩))
    else
      (out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).1 (outsAt1 c n (Nat.lt_of_succ_lt hn)).2, out1_B_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).1 (outsAt1 c n (Nat.lt_of_succ_lt hn)).2)

theorem outsAt1_A (c : Dev nD) (t : Fin cfg1.N) (h0 : t.val % 16 = 0) :
    outsAt1 V c t.val t.isLt = (out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) ((hcond1_0 t).mpr h0) (iblk1 V c 0 t) (iblk1 V c 1 t) (iblk1 V c 2 t) (iblk1 V c 3 t) (iblk1 V c 4 t), out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) ((hcond1_0 t).mpr h0) (iblk1 V c 0 t) (iblk1 V c 1 t) (iblk1 V c 2 t) (iblk1 V c 3 t) (iblk1 V c 4 t)) := by
  obtain ⟨n, hn⟩ := t
  cases n with
  | zero => exact rfl
  | succ n => exact (dif_pos h0).trans rfl

theorem outsAt1_B (c : Dev nD) (t : Fin cfg1.N) (h0 : ¬t.val % 16 = 0) :
    outsAt1 V c t.val t.isLt = (out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (fun h => h0 ((hcond1_0 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).1 (outsAt1 V c (t.val - 1) (Nat.lt_of_le_of_lt (Nat.sub_le _ _) t.isLt)).2, out1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (fun h => h0 ((hcond1_0 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).1 (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
    | ⟨6, _⟩ => (outsAt1 V c t.val t.isLt).2
  Φ _ := Pipeline.ΦA spec1 c
  q _ := fullShare
  owed _ := 0

theorem A1_eq (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]
theorem after1_6 (c : Dev nD) (t : Fin cfg1.N) : (dat1 V c).after 6 t = (outsAt1 V c t.val t.isLt).2 := by dsimp only [dat1]

theorem before1_0 (c : Dev nD) (t : Fin cfg1.N) (d) : (dat1 V c).before 0 t d = iblk1 V c 0 t :=
  before1_0_of V (dat1 V c) (A1_eq V c 0) (after1_0 V c) t d
theorem before1_1 (c : Dev nD) (t : Fin cfg1.N) (d) : (dat1 V c).before 1 t d = iblk1 V c 1 t :=
  before1_1_of V (dat1 V c) (A1_eq V c 1) (after1_1 V c) t d
theorem before1_2 (c : Dev nD) (t : Fin cfg1.N) (d) : (dat1 V c).before 2 t d = iblk1 V c 2 t :=
  before1_2_of V (dat1 V c) (A1_eq V c 2) (after1_2 V c) t d
theorem before1_3 (c : Dev nD) (t : Fin cfg1.N) (d) : (dat1 V c).before 3 t d = iblk1 V c 3 t :=
  before1_3_of V (dat1 V c) (A1_eq V c 3) (after1_3 V c) t d
theorem before1_4 (c : Dev nD) (t : Fin cfg1.N) (d) : (dat1 V c).before 4 t d = iblk1 V c 4 t :=
  before1_4_of V (dat1 V c) (A1_eq V c 4) (after1_4 V c) t d
theorem before1_5_B (c : Dev nD) (t : Fin cfg1.N) (h0 : ¬t.val % 16 = 0) (d) :
    (dat1 V c).before 5 t d = (outsAt1 V c (t.val - 1) (Nat.lt_of_le_of_lt (Nat.sub_le _ _) t.isLt)).1 := by
  have hN : t.val < 16 := lt_of_lt_of_eq t.isLt (show cfg1.N = 16 from N_1)
  rw [Dat.before_out_kept _ 5 rfl t (by omega) (Bool.eq_false_iff.mpr fun h => by have := (flush1_5 _).mp h; dsimp only at this; omega)
    (fun _ => rfl) (fun _ _ => rfl)]
  dsimp only [dat1]
theorem before1_6_B (c : Dev nD) (t : Fin cfg1.N) (h0 : ¬t.val % 16 = 0) (d) :
    (dat1 V c).before 6 t d = (outsAt1 V c (t.val - 1) (Nat.lt_of_le_of_lt (Nat.sub_le _ _) t.isLt)).2 := by
  have hN : t.val < 16 := lt_of_lt_of_eq t.isLt (show cfg1.N = 16 from N_1)
  rw [Dat.before_out_kept _ 6 rfl t (by omega) (Bool.eq_false_iff.mpr fun h => by have := (flush1_6 _).mp h; dsimp only at this; omega)
    (fun _ => rfl) (fun _ _ => rfl)]
  dsimp only [dat1]

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t))

set_option maxHeartbeats 800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  have hN : t.val < 16 := lt_of_lt_of_eq t.isLt (show cfg1.N = 16 from N_1)
  by_cases h0 : t.val % 16 = 0
  · rw [outsAt1_A V c t h0]
    unfold out1_A_5 out1_A_6; (try dsimp only)
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun1_A c (grid1.coords t) _ _ _ _ _ _ _ _ _ _ _ _ _ _ ((hcond1_0 t).mpr h0) (iblk1 V c 0 t) (iblk1 V c 1 t) (iblk1 V c 2 t) (iblk1 V c 3 t) (iblk1 V c 4 t)).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    iintro ⟨H0, H1, H2, H3, H4, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover1_A_5 c _ _ _ _ _ _ _ _ _ _ _ _ _ _ _ _ _ _ _ _ _)
    unfold owns; iexists _; isplitr
    swap; · iexact H6
    ipureintro; exact View.read_writes_of_cover _ _ _ _ _ (cover1_A_6 c _ _ _ _ _ _ _ _ _ _ _ _ _ _ _ _ _ _ _ _ _)
  · rw [outsAt1_B V c t h0]
    simp only [before1_5_B V c t h0, before1_6_B V c t h0]
    unfold out1_B_5 out1_B_6; (try dsimp only)
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun1_B c (grid1.coords t) _ _ _ _ _ _ _ _ _ _ _ _ _ _ (fun h => h0 ((hcond1_0 t).mp h)) (iblk1 V c 0 t) (iblk1 V c 1 t) (iblk1 V c 2 t) (iblk1 V c 3 t) (iblk1 V c 4 t) _ _).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    iintro ⟨H0, H1, H2, H3, H4, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover1_B_5 c _ _ _ _ _ _ _ _ _ _ _ _ _ _ _ _ _ _ _ _ _ _ _)
    unfold owns; iexists _; isplitr
    swap; · iexact H6
    ipureintro; exact View.read_writes_of_cover _ _ _ _ _ (cover1_B_6 c _ _ _ _ _ _ _ _ _ _ _ _ _ _ _ _ _ _ _ _ _ _ _)

theorem defs₀_row1 (t : Fin cfg1.N) :
    defs₀ (F := F) .tc cfg1.body (cfg1.bodyArgs t (cfg1.slots t)) = bodyAt1 t := by
  unfold defs₀; rw [Defs.onTc_tc]

theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.Kernel.Main

end
-- ==== Proof.Run.lean ====
module

public import proofs.«01_k».proof.Proof.Region0
public import proofs.«01_k».proof.Proof.Region1
public import proofs.«01_k».proof.Proof.Gen.Kernel.Regions
public import Idealize.ShloMosaic.Lib.Pipeline.FrameTail

@[expose] public section

set_option maxRecDepth 16384

noncomputable section

/-! # The whole run: the host's lines, the first call, the second call, the host's last lines -/

namespace Cert.Kernel.Main

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 (c : Dev nD) : Valuation τ sig (Elt F) := fun b => m (c, b)
/-- After the host's first lines, where the first call is entered. -/
abbrev W1 (c : Dev nD) : Valuation τ sig (Elt F) := StableHlo.after hostOps0 (W0 m c)
/-- The buffers the first call is entered with. -/
abbrev E1 (c : Dev nD) (b : Ref sig .tc) : Buf (Elt F) ((c : Thread nD τ).loc b) := W1 m c (Proc.devRef .tc b)
/-- After the first call. -/
def W2 (c : Dev nD) : Valuation τ sig (Elt F) := Pipeline.afterRegion (dat0 (E1 m) c) (W1 m c)
/-- The buffers the second call is entered with. -/
abbrev E2 (c : Dev nD) (b : Ref sig .tc) : Buf (Elt F) ((c : Thread nD τ).loc b) := W2 m c (Proc.devRef .tc b)
/-- After the second call. -/
def W3 (c : Dev nD) : Valuation τ sig (Elt F) := Pipeline.afterRegion (dat1 (E2 m) c) (W2 m c)
/-- At the end. -/
abbrev W4 (c : Dev nD) : Valuation τ sig (Elt F) := StableHlo.after hostOps2 (W3 m c)

/-- The proof data of the two calls. -/
def dats (p : Fin 2) (c : Dev nD) : Dat τ (Elt F) Unit ℕ (UR sig nD τ) ℕ (cfgs p) c :=
  match p with
  | ⟨0, _⟩ => dat0 (E1 m) c
  | ⟨1, _⟩ => dat1 (E2 m) c

abbrev noLev : GSem nD τ sig → Finset Unit := fun _ => ∅
abbrev lev0 : GSem nD τ sig → Unit → ℕ := fun _ _ => 0

/-- What rides beside the buffers: the generator register, and nothing owed. -/
def Rst (c : Dev nD) : sProp 𝕄 :=
  iprop((∃ r, prngReg c r) ∗ ∃ W, owes (c.tc : Thread nD τ) (0 : CellTallies nD τ sig Unit) W)

set_option backward.isDefEq.respectTransparency.types false in
/-- One call as a segment of the run, entered at `V` and left at `V` with the call's arrays at their final contents. -/
def regOf (p : Fin 2) (kit : Pipeline.LaunchFacts (nD := nD) (τ := τ) cfgs p) (V : Dev nD → Valuation τ sig (Elt F))
    (hbody : ∀ c, Pipeline.BodyObligationLoose (dats m p c) (defs₀ (F := F)) Variants.none () Set.univ)
    (hshare : ∀ c w, (dats m p c).share w = fullShare) (howed : ∀ c t, (dats m p c).owed t = 0)
    (hrec : ∀ c x, x ∈ (dats m p c).recorded 0)
    (hA : ∀ c w, (dats m p c).A w = V c (Proc.devRef .tc (Pipeline.arrRef (cfgs p).spec w)))
    (hin : ∀ c, Pipeline.ΦA (cfgs p).spec c ⊢ (dats m p c).Φ 0)
    (hout : ∀ c, (dats m p c).Φ (Fin.last (cfgs p).N) ⊢ Pipeline.ΦA (cfgs p).spec c) :
    RegionSeg (pcfgs (F := F)) adm (dats m) () defs₀ Variants.none noLev lev0 p where
  win := kit.win.to₀
  block_pos := kit.block_pos
  stage_whole := kit.stage_whole
  K := PEmpty
  osem := fun k => k.elim
  ho := Pipeline.OwnSemFacts.none _
  hbody := hbody
  hwaits := Pipeline.hwaits_of_owed_zero _ _ _ _ noLev lev0 p howed
  pre := fun c => iprop(StableHlo.held (c.tc : Thread nD τ) (Pipeline.ucRefs τ sig) (V c) ∗ Rst c)
  post := fun c => iprop(StableHlo.held (c.tc : Thread nD τ) (Pipeline.ucRefs τ sig) (Pipeline.afterRegion (dats m p c) (V c)) ∗ Rst c)
  X := fun c => iprop(∃ r, prngReg c r)
  Y := fun c => iprop(∃ r, prngReg c r)
  Z := fun c => Pipeline.unscopedRest (Ix := Unit) (Name := ℕ) (U := UR sig nD τ) (Lvl := ℕ) (cfgs p).spec c (fun b => V c (Proc.devRef .tc b))
  hentry := fun c => by
    rw [Pipeline.ownSems0_none,
      show StableHlo.held (c.tc : Thread nD τ) (Pipeline.ucRefs τ sig) (V c) = unscopedBufs c (fun b => V c (Proc.devRef .tc b))
        from (Pipeline.unscopedBufs_held (Ix := Unit) (Name := ℕ) (U := UR sig nD τ) (Lvl := ℕ) c (V c)).symm]
    have hsplit := Pipeline.arrays_of_unscopedBufs (p := p) (pcfgs (F := F)) adm (dats m) kit.win kit.arr_whole c (hshare c)
      (fun b => V c (Proc.devRef .tc b)) (fun w => hA c w)
    unfold Rst
    iintro ⟨⟨Hub, Hp, HO⟩, -, -⟩
    ihave H := hsplit $$ Hub
    icases H with ⟨Ha, Hrest⟩
    imodintro
    isplitl [Ha]; · iexact Ha
    isplitr
    · unfold Pipeline.prefHeld
      iapply (show (BI.emp : sProp 𝕄) ⊢ bigSep (Finset.univ : Finset (Fin 0)) _ from by
        rw [show (Finset.univ : Finset (Fin 0)) = ∅ from rfl, BI.bigSep_empty])
      iempintro
    isplitl [HO]
    · unfold Pipeline.Dat.owesAt Pipeline.owesWithin
      rw [howed c 0]
      icases HO with ⟨%W, HO⟩
      iexists W; isplitr; · ipureintro; exact fun _ _ => Or.inl (hrec c _)
      iexact HO
    isplitl [Hp]; · iexact Hp
    iexact Hrest
  hin := fun c => (show _ ⊢ Pipeline.ΦA (cfgs p).spec c from by
    unfold Pipeline.ΦA; iintro ⟨Hp, -, Hr⟩
    isplitl [Hr] <;> iassumption).trans (hin c)
  hout := fun c => (hout c).trans (by
    rw [Pipeline.ownSems0_none]; unfold Pipeline.ΦA
    iintro ⟨Hr, Hp⟩
    isplitl [Hp]; · iexact Hp
    isplitr; · iempintro
    iexact Hr)
  hexit := fun c => by
    have hjoin := Pipeline.unscopedBufs_of_arrays (p := p) (pcfgs (F := F)) adm (Ix := Unit) (Name := ℕ) (U := UR sig nD τ) (Lvl := ℕ)
      kit.win kit.arr_whole c (dats m) (hshare c)
      (fun b => V c (Proc.devRef .tc b)) (fun b => Pipeline.afterRegion (dats m p c) (V c) (Proc.devRef .tc b)) ((dats m p c).arrAt · (cfgs p).N)
      (fun w => (Pipeline.afterRegion_arr (dats m p c) (V c) kit.win.arr_inj w).symm)
      (fun b hb => Pipeline.afterRegion_of_not_arr (dats m p c) (V c)
        fun w h => hb (h ▸ Finset.mem_image.mpr ⟨w, Finset.mem_univ _, rfl⟩))
    rw [show StableHlo.held (c.tc : Thread nD τ) (Pipeline.ucRefs τ sig) (Pipeline.afterRegion (dats m p c) (V c)) = unscopedBufs c (fun b => Pipeline.afterRegion (dats m p c) (V c) (Proc.devRef .tc b))
        from (Pipeline.unscopedBufs_held (Ix := Unit) (Name := ℕ) (U := UR sig nD τ) (Lvl := ℕ) c (Pipeline.afterRegion (dats m p c) (V c))).symm]
    unfold Rst
    iintro ⟨Ha, HO, Hp, Hrest⟩
    imodintro
    isplitl [Ha Hrest]
    · iapply hjoin; isplitl [Ha] <;> iassumption
    isplitl [Hp]; · iexact Hp
    unfold Pipeline.Dat.owesAt Pipeline.owesWithin
    rw [howed c (Fin.last _)]
    icases HO with ⟨%W, -, HO⟩; iexists W; iexact HO

/-- The first call's segment. -/
def reg0 : RegionSeg (pcfgs (F := F)) adm (dats m) () defs₀ Variants.none noLev lev0 0 :=
  regOf m 0 launch0 (W1 m) (fun c => (body_obligation0 (E1 m) c).loose) (fun c => (dat0 (E1 m) c).share_full fun _ => rfl)
    (fun _ _ => rfl) (fun _ _ => trivial) (fun c w => A0_eq (E1 m) c w) (fun c => hin0 (E1 m) c) (fun c => hout0 (E1 m) c)

/-- The second call's segment. -/
def reg1 : RegionSeg (pcfgs (F := F)) adm (dats m) () defs₀ Variants.none noLev lev0 1 :=
  regOf m 1 launch1 (W2 m) (fun c => (body_obligation1 (E2 m) c).loose) (fun c => (dat1 (E2 m) c).share_full fun _ => rfl)
    (fun _ _ => rfl) (fun _ _ => trivial) (fun c w => A1_eq (E2 m) c w) (fun _ => .rfl) (fun _ => .rfl)

/-- The host's first lines. -/
def hseg0 : HostSeg (Ix := Unit) (Name := ℕ) (U := UR sig nD τ) (Lvl := ℕ) (pcfgs (F := F)) defs₀ Variants.none noLev lev0 :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) Rst
/-- The host's last lines. -/
def hseg3 : HostSeg (Ix := Unit) (Name := ℕ) (U := UR sig nD τ) (Lvl := ℕ) (pcfgs (F := F)) defs₀ Variants.none noLev lev0 :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W3 m) Rst

set_option backward.isDefEq.respectTransparency.types false in
/-- From any memory with the counters at zero the program ends, every unscoped buffer at `W4`, every counter at zero. -/
theorem run_all : θ_run defs (onTc (τ := τ) (main (F := F))) ⟨m, fun _ => 0, ρ⟩ (fun r =>
    (∀ (c : Dev nD), ∀ b ∈ Pipeline.ucRefs τ sig, r.2.mem ((c.tc : Thread nD τ).1, b) = W4 m c b) ∧ r.2.sem = fun _ => 0) := by
  refine Pipeline.θ_run_regions_kit_sems (pcfgs (F := F)) adm (dats m) () cellOf_inj emb₁ defs₀ Variants.none noLev lev0 m ρ main
    [.host (hseg0 m), .region (reg0 m), .region (reg1 m), .host (hseg3 m)]
    (fun c Q => by rw [main_chain c, Seg.run_eq_chain]; exact .rfl)
    (by simp only [Seg.pipes_host, Seg.pipes_region, Seg.pipes_nil]; decide)
    (O₀ := 0) (hL := fun _ _ => rfl)
    (G := fun _ => iprop(emp)) (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c.tc : Thread nD τ) (Pipeline.ucRefs τ sig) (W0 m c) ∗ Rst c))
    (Tₙ := fun c => StableHlo.held (c.tc : Thread nD τ) (Pipeline.ucRefs τ sig) (W4 m c))
    (hch := ⟨fun _ => .rfl, fun _ => .rfl, fun _ => .rfl, fun _ => .rfl, fun c =>
      (show iprop(StableHlo.held (c.tc : Thread nD τ) (Pipeline.ucRefs τ sig) (W4 m c) ∗ Rst c) ⊢ (_ : sProp 𝕄) from by
        unfold Rst
        iintro ⟨Hh, -, HO⟩
        isplitl [Hh] <;> iassumption)⟩)
    (hinit := by
      refine Pipeline.initEach noLev lev0 fun c => ?_
      rw [show unscopedBufs c (fun b => m ((c.tc : Thread nD τ).loc b)) = StableHlo.held (c.tc : Thread nD τ) (Pipeline.ucRefs τ sig) (W0 m c)
          from Pipeline.unscopedBufs_held (Ix := Unit) (Name := ℕ) (U := UR sig nD τ) (Lvl := ℕ) c (W0 m c)]
      unfold Rst
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem ((c.tc : Thread nD τ).1, b) = W4 m c b)
    (hfin := fun c s' => by
      unfold StableHlo.held
      iintro ⟨Hh, HSI⟩
      ihave Hr := (pointsTo_read_all (Pipeline.ucRefs τ sig) (fun b => ((c.tc : Thread nD τ).1, b)) (W4 m c) s') $$ [Hh HSI]
      · isplitl [Hh] <;> iassumption
      imodintro; iexact Hr)
    (hQ := fun _ h hz => ⟨h, funext fun g => hz g (.inr (regions_no_unscoped g.2))⟩)

/-! ## The arguments end as launched -/

/-- A buffer that neither the host's lines nor a call writes ends as launched. -/
theorem W4_kept (c : Dev nD) (r : Ref sig .tc) (h0 : r ∉ hostOps0_W) (h2 : r ∉ hostOps2_W)
    (ha0 : ∀ w, r ≠ Pipeline.arrRef spec0 w) (ha1 : ∀ w, r ≠ Pipeline.arrRef spec1 w) :
    W4 m c (Proc.devRef .tc r) = m ((c : Thread nD τ).loc r) :=
  (StableHlo.after_of_writes_sub hostOps2 _ hostOps2_writes h2).trans <|
    (Pipeline.afterRegion_of_not_arr (dat1 (E2 m) c) (W2 m c) ha1).trans <|
    (Pipeline.afterRegion_of_not_arr (dat0 (E1 m) c) (W1 m c) ha0).trans <|
    StableHlo.after_of_writes_sub hostOps0 _ hostOps0_writes h0

/-- The first argument, which the second call reads as it is, ends as launched. -/
theorem W4_arg0 (c : Dev nD) : W4 m c (Proc.devRef .tc main_arg0) = m ((c : Thread nD τ).loc main_arg0) :=
  (StableHlo.after_of_writes_sub hostOps2 _ hostOps2_writes (by decide)).trans <|
    (Pipeline.afterRegion_arr (dat1 (E2 m) c) (W2 m c) launch1.win.arr_inj 0).trans <|
    ((dat1 (E2 m) c).arrAt_in 0 rfl _).trans <|
    (A1_eq (E2 m) c 0).trans <|
    (Pipeline.afterRegion_of_not_arr (dat0 (E1 m) c) (W1 m c) (by decide)).trans <|
    StableHlo.after_of_writes_sub hostOps0 _ hostOps0_writes (by decide)

/-- What every final state holds: the arguments as launched, the two results at `W4`, every counter at zero. -/
theorem run_post : θ_run defs (onTc (τ := τ) (main (F := F))) ⟨m, fun _ => 0, ρ⟩ (fun r => (∀ c : Dev nD,
      r.2.mem ((c.tc : Thread nD τ).loc main_v7) = W4 m c (Proc.devRef .tc main_v7)
      ∧ r.2.mem ((c.tc : Thread nD τ).loc main_v8) = W4 m c (Proc.devRef .tc main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => by
    have hb : ∀ (c : Dev nD) (b : Ref sig .tc), b.isScoped = false →
        r.2.mem ((c.tc : Thread nD τ).loc b) = W4 m c (Proc.devRef .tc b) :=
      fun c b hs => h.1 c _ (Pipeline.devRef_mem_ucRefs hs)
    refine ⟨fun c => ⟨hb c main_v7 rfl, hb c main_v8 rfl, (hb c main_arg0 rfl).trans (W4_arg0 m c), ?_, ?_, ?_, ?_⟩, h.2⟩
    · exact (hb c main_arg1 rfl).trans (W4_kept m c main_arg1 (by decide) (by decide) (by decide) (by decide))
    · exact (hb c main_arg2 rfl).trans (W4_kept m c main_arg2 (by decide) (by decide) (by decide) (by decide))
    · exact (hb c main_arg3 rfl).trans (W4_kept m c main_arg3 (by decide) (by decide) (by decide) (by decide))
    · exact (hb c main_arg4 rfl).trans (W4_kept m c main_arg4 (by decide) (by decide) (by decide) (by decide))) (run_all m ρ)

end Cert.Kernel.Main

end
-- ==== Proof.Same.lean ====
module

public import proofs.«01_k».proof.Proof.Gen.Kernel.Launch
public import proofs.«01_k».proof.Proof.Gen.KernelIdeal.Launch

@[expose] public section

set_option maxRecDepth 16384

/-! # The kernel and its idealized print are one program: nothing was rewritten -/

namespace Cert.Kernel.Main

open Idealize.ShloMosaic

variable {F : FTy → Type} [FloatOps F]

theorem colsum_same : @Cert.Kernel.cc0__colsum_body F _ Cert.Kernel.Gen.facts = @Cert.KernelIdeal.cc0__colsum_body F _ Cert.KernelIdeal.Gen.facts := by
  with_unfolding_all rfl

theorem mainBody_same : @Cert.Kernel.cc1__main_body F _ Cert.Kernel.Gen.facts = @Cert.KernelIdeal.cc1__main_body F _ Cert.KernelIdeal.Gen.facts := by
  with_unfolding_all rfl

theorem main_same : @Cert.Kernel.main F _ Cert.Kernel.Gen.facts = @Cert.KernelIdeal.main F _ Cert.KernelIdeal.Gen.facts := by
  with_unfolding_all rfl

theorem defs₀_same : @Cert.Kernel.defs₀ F _ Cert.Kernel.Gen.facts = @Cert.KernelIdeal.defs₀ F _ Cert.KernelIdeal.Gen.facts := by
  funext κ l a
  cases κ with
  | tc =>
    match l, a with
    | ⟨0, _⟩, (t, s) =>
      with_unfolding_all rfl
    | ⟨1, _⟩, (t, s) =>
      with_unfolding_all rfl
  | scScalar _ => with_unfolding_all rfl
  | scVector _ _ => with_unfolding_all rfl

theorem defs_same : @Cert.Kernel.defs F _ Cert.Kernel.Gen.facts = @Cert.KernelIdeal.defs F _ Cert.KernelIdeal.Gen.facts := by
  unfold Cert.Kernel.defs Cert.KernelIdeal.defs
  rw [defs₀_same]
  with_unfolding_all rfl

end Cert.Kernel.Main

end
-- ==== Proof.Frames.lean ====
module

public import proofs.«01_k».proof.Proof.Gen.ReferenceIdeal
public import proofs.«01_k».proof.Defs
public import proofs.«01_k».proof.Proof.Run
public import proofs.«01_k».proof.Proof.Same
public import Idealize.ShloMosaic.Lib.Claim
public import Idealize.ShloMosaic.Lib.Quiescent

@[expose] public section

set_option maxRecDepth 16384

noncomputable section

namespace Cert.Proof

open Idealize.ShloMosaic Idealize.ShloMosaic.Tactic

theorem frame_ref : Cert.quiescent_ReferenceIdeal := by
  intro m g _
  refine θ_run_mono (StableHlo.run_hlo _ _ (by hlo_seq) (by decide) (by decide) (by simp)
    (by intro _ h; (repeat (cases h with | head => rfl | tail _ h => ?_)); exact nomatch h) _ _) ?_
  intro r hr
  refine ⟨?_, sem_eq_zero_of_no_sems (by decide) _⟩
  intro c
  have hc := hr c; clear hr
  and_intros
  all_goals run_conjunct

theorem frame_kernel : Cert.quiescent_Kernel := by
  intro m g _
  refine θ_run_mono (Cert.Kernel.Main.run_post m g) ?_
  rintro r ⟨h, hs⟩
  exact ⟨fun c => ⟨(h c).2.2.1, (h c).2.2.2.1, (h c).2.2.2.2.1, (h c).2.2.2.2.2.1, (h c).2.2.2.2.2.2⟩, hs⟩

theorem frame_kernelIdeal : Cert.quiescent_KernelIdeal := by
  intro m g _
  have h0 := Cert.Kernel.Main.run_post (F := Ideal) m g
  rw [Cert.Kernel.Main.defs_same, Cert.Kernel.Main.main_same] at h0
  refine θ_run_mono h0 ?_
  rintro r ⟨h, hs⟩
  exact ⟨fun c => ⟨(h c).2.2.1, (h c).2.2.2.1, (h c).2.2.2.2.1, (h c).2.2.2.2.2.1, (h c).2.2.2.2.2.2⟩, hs⟩

end Cert.Proof

end
-- ==== Proof.Spec.lean ====
module

public import Idealize.ShloMosaic.PureOps.Ideal
public import Idealize.ShloMosaic.Lib.Pointwise

@[expose] public section

/-! What one row of the batch contributes in the kernel, as functions on the extended reals: `y` is the row
of scores, `lt` the logarithms of the thresholds, `o` the row of the product. -/

noncomputable section

namespace Cert.Spec

open Idealize.ShloMosaic

/-- The sum of the exponentials of a row. -/
def expSum (y : Fin 1000 → EReal) : EReal := ∑ c, Ideal.exp (y c)

/-- One where the class' probability exceeds its threshold, zero elsewhere. -/
def kGt (y lt : Fin 1000 → EReal) (c : Fin 1000) : EReal := if lt c + Ideal.log (expSum y) < y c then 1 else 0

/-- One when some class of the row exceeds its threshold, zero otherwise. -/
def kFired (y lt : Fin 1000 → EReal) : EReal := Finset.univ.fold max ⊥ fun c => kGt y lt c

/-- The row's loss before the mask. -/
def kRow (y lt o : Fin 1000 → EReal) : EReal :=
  (if 0 < kFired y lt then Ideal.ofBits .f32 0xC1200000#32 * ∑ c, (if y c = Finset.univ.fold max ⊥ (fun k => y k) then o c else 0)
    else Ideal.div (0 - ∑ c, Ideal.exp (y c) * o c) (expSum y))
  + Ideal.log (expSum o) * (if 0 < kFired y lt then Ideal.ofBits .f32 0x41200000#32 else 1)

/-- The smoothed threshold of a class, from the given one and the mean of the probabilities. -/
def smooth (a m : EReal) : EReal := a * Ideal.ofBits .f32 0x3F7D70A4#32 + Ideal.ofBits .f32 0x3C23D70A#32 * m

/-- The smoothed thresholds rescaled. -/
def rescale (t : Fin 1000 → EReal) (c : Fin 1000) : EReal :=
  Ideal.div (t c - Finset.univ.fold min ⊤ fun k => t k) ((Finset.univ.fold max ⊥ fun k => t k) - Finset.univ.fold min ⊤ fun k => t k)
    * Ideal.ofBits .f32 0x3E19999A#32 + Ideal.ofBits .f32 0x3F4CCCCD#32

theorem negInf : Ideal.ofBits .f32 0xFF800000#32 = ⊥ := by simp [Ideal.ofBits, Ideal.ieee]
theorem posInf : Ideal.ofBits .f32 0x7F800000#32 = ⊤ := by simp [Ideal.ofBits, Ideal.ieee]

end Cert.Spec

end
-- ==== Proof.Pay.lean ====
module

public import proofs.«01_k».proof.Proof.Spec
public import proofs.«01_k».proof.Proof.Gen.Kernel.Skeleton

@[expose] public section

set_option maxRecDepth 16384

noncomputable section

namespace Cert.Kernel.Main

open Idealize.ShloMosaic Idealize.ShloMosaic.TcCoe Cert.Kernel Cert.Kernel.Gen Cert.Spec

theorem pay11_at (v0 : FVec Ideal S1x1000x1 .f32) (v5 : FVec Ideal S1000x512 .f32) (c : Fin 1000) (j : Fin 512) :
    k1_pay11 (F := Ideal) v0 v5 (ix2 c j) = kGt (fun c => v5 (ix2 c j)) (fun c => v0 (ix3 0 c 0)) c := by
  pointwise [k1_pay11, k1_pay10, k1_pay9, k1_pay7, k1_pay5, kGt, expSum]

theorem pay12_at (v0 : FVec Ideal S1x1000x1 .f32) (v5 : FVec Ideal S1000x512 .f32) (j : Fin 512) :
    k1_pay12 (F := Ideal) v0 v5 (ix2 0 j) = kFired (fun c => v5 (ix2 c j)) (fun c => v0 (ix3 0 c 0)) := by
  pointwise [k1_pay12, pay11_at, negInf, kFired]

theorem pay27_at (v0 : FVec Ideal S1x1000x1 .f32) (v5 : FVec Ideal S1000x512 .f32) (c : Fin 1000) (j : Fin 512) (z : EReal) (hz : z = 0) :
    k1_pay27 (F := Ideal) (k1_pay25 (F := Ideal) (k1_pay5 v0) v5) z k1_pay26 (ix2 c j)
      = kGt (fun c => v5 (ix2 c j)) (fun c => v0 (ix3 0 c 0)) c := by
  subst hz
  pointwise [k1_pay27, k1_pay26, k1_pay25, k1_pay24, k1_pay23, k1_pay20, k1_pay5, kGt, expSum]

theorem pay28_at (v0 : FVec Ideal S1x1000x1 .f32) (v5 : FVec Ideal S1000x512 .f32) (j : Fin 512) (z : EReal) (hz : z = 0) :
    k1_pay28 (F := Ideal) (k1_pay25 (F := Ideal) (k1_pay5 v0) v5) z k1_pay26 (ix2 0 j)
      = kFired (fun c => v5 (ix2 c j)) (fun c => v0 (ix3 0 c 0)) := by
  subst hz
  pointwise [k1_pay28, negInf, kFired]
  simp only [pay27_at _ _ _ _ _ rfl]

theorem pay31_at (v0 : FVec Ideal S1x1000x1 .f32) (v5 v63 : FVec Ideal S1000x512 .f32) (c : Fin 1000) :
    k1_pay31 (F := Ideal) (k1_pay18 (k1_pay11 v0 v5)) (k1_pay25 (F := Ideal) (k1_pay5 v0) v63) (Scalar.ofBits .f32 0x00000000#32) k1_pay26 (ix2 c 0)
      = (∑ j : Fin 512, kGt (fun c => v5 (ix2 c j)) (fun c => v0 (ix3 0 c 0)) c) + ∑ j : Fin 512, kGt (fun c => v63 (ix2 c j)) (fun c => v0 (ix3 0 c 0)) c := by
  pointwise [k1_pay31, k1_pay18]
  simp only [pay27_at _ _ _ _ _ rfl, pay11_at]

theorem pay19_at (v0 : FVec Ideal S1x1000x1 .f32) (v5 : FVec Ideal S1000x512 .f32) :
    k1_pay19 (F := Ideal) (k1_pay12 v0 v5) (ix2 0 0) = ∑ j : Fin 512, (1 - kFired (fun c => v5 (ix2 c j)) (fun c => v0 (ix3 0 c 0))) := by
  pointwise [k1_pay19]
  simp only [pay12_at]

theorem pay29_at (v0 : FVec Ideal S1x1000x1 .f32) (v5 : FVec Ideal S1000x512 .f32) :
    k1_pay29 (F := Ideal) (k1_pay25 (F := Ideal) (k1_pay5 v0) v5) (Scalar.ofBits .f32 0x00000000#32) k1_pay26 (ix2 0 0)
      = ∑ j : Fin 512, (1 - kFired (fun c => v5 (ix2 c j)) (fun c => v0 (ix3 0 c 0))) := by
  pointwise [k1_pay29]
  simp only [pay28_at _ _ _ _ rfl]

theorem pay4_at (v61 v119 : FVec Ideal S1x1 .f32) (v121 : FVec Ideal S1000x1 .f32) (v139 : FVec Ideal S1x1000x1 .f32) (c : Fin 1000) :
    k1_pay4 (F := Ideal) v61 v119 v121 v139 (ix3 0 c 0)
      = v139 (ix3 0 c 0) + (v121 (ix2 c 0) + if c.val = 0 then v61 (ix2 0 0) + v119 (ix2 0 0) else 0) := by
  have hc : IntOp.cmpi CmpIPredicate.eq (BitVec.ofNat 32 c.val) 0#32 = if c.val = 0 then 1#1 else 0#1 := by
    have := c.isLt
    by_cases h : c.val = 0
    · rw [h]; rfl
    · rw [if_neg h]
      have : BitVec.ofNat 32 c.val ≠ 0#32 := by
        intro e; have := congrArg BitVec.toNat e; simp at this; omega
      have hb : (BitVec.ofNat 32 c.val == 0#32) = false := beq_false_of_ne this
      simp only [IntOp.cmpi, hb]; rfl
  pointwise [k1_pay4]
  rw [hc]
  by_cases h : c.val = 0 <;> simp [h, Scalar.select]

theorem pay3_at (v120 : FVec Ideal S1x1 .f32) (v134 : FVec Ideal S1x1x1 .f32) :
    k1_pay3 (F := Ideal) v120 v134 (ix3 0 0 0) = v134 (ix3 0 0 0) + v120 (ix2 0 0) := by
  pointwise [k1_pay3]

theorem pay0_2_at (v0 : FVec Ideal S1000x4096 .f32) (v10 : FVec Ideal S1000x1 .f32) (c : Fin 1000) :
    k0_pay2 (F := Ideal) v0 v10 (ix2 c 0) = v10 (ix2 c 0) + ∑ j : Fin 4096, Ideal.exp (v0 (ix2 c j)) * Ideal.div 1 (expSum fun k => v0 (ix2 k j)) := by
  pointwise [k0_pay2, expSum]

theorem pay0_3_at (v19 : FVec Ideal S1000x1 .f32) (v22 : FVec Ideal S1x1000x1 .f32) (c : Fin 1000) :
    k0_pay3 (F := Ideal) v19 v22 (ix3 0 c 0)
      = Ideal.log (rescale (fun k => smooth (v22 (ix3 0 k 0)) (v19 (ix2 k 0) * Ideal.ofBits .f32 0x38800000#32)) c) := by
  pointwise [k0_pay3, rescale, smooth, negInf, posInf]

end Cert.Kernel.Main

end
-- ==== Proof.Outs0.lean ====
module

public import proofs.«01_k».proof.Proof.Region0
public import proofs.«01_k».proof.Proof.Pay
public import Idealize.ShloMosaic.Lib.Pipeline.ValueKit
public import Idealize.ShloMosaic.Lib.Pipeline.ReadBack

@[expose] public section

set_option maxRecDepth 16384

noncomputable section

/-! # What the first call holds after each block -/

namespace Cert.Kernel.Main

open Idealize.ShloMosaic Idealize.ShloMosaic.TcCoe Idealize.SL.Sem Cert.Kernel Cert.Kernel.Gen Cert.Spec

/-- What a block of 4096 rows adds to the summed probabilities of class `k`. -/
def csTerm (x : FVec Ideal S1000x4096 .f32) (k : Fin 1000) : EReal :=
  ∑ j : Fin 4096, Ideal.exp (x (ix2 k j)) * Ideal.div 1 (expSum fun k' => x (ix2 k' j))

variable (V : (c : Dev nD) → (b : Ref sig .tc) → Buf (Elt Ideal) ((c : Thread nD τ).loc b))

theorem cs_A (c : Dev nD) (t : Fin cfg0.N) (h0 : t.val % 4 = 0) (k : Fin 1000) :
    (outsAt0 V c t.val t.isLt).2 (ix2 k 0) = (0 : EReal) + csTerm (iblk0 V c 0 t) k := by
  rw [outsAt0_A V c t h0 (by omega)]
  frame_out
  refine (pay0_2_at _ _ k).trans ?_
  unfold csTerm
  pointwise [k0_pay1]

theorem cs_BC (c : Dev nD) (t : Fin cfg0.N) (h0 : ¬t.val % 4 = 0) (k : Fin 1000) :
    (outsAt0 V c t.val t.isLt).2 (ix2 k 0)
      = (show EReal from (outsAt0 V c (t.val - 1) (Nat.lt_of_le_of_lt (Nat.sub_le _ _) t.isLt)).2 (ix2 k 0)) + csTerm (iblk0 V c 0 t) k := by
  by_cases h1 : t.val % 4 = 3
  · rw [outsAt0_C V c t h0 h1]
    frame_out
    rw [Idealize.ShloMosaic.read_unread_whole]
    exact pay0_2_at _ _ k
  · rw [outsAt0_B V c t h0 h1]
    frame_out
    rw [Idealize.ShloMosaic.read_unread_whole]
    exact pay0_2_at _ _ k

/-- The summed probabilities after the last block. -/
theorem cs_last (c : Dev nD) (k : Fin 1000) :
    (outsAt0 V c t0_3.val t0_3.isLt).2 (ix2 k 0) = ∑ t : Fin cfg0.N, csTerm (iblk0 V c 0 t) k := by
  have h := Pipeline.eq_sum_fin_of_reset_step_last (M := EReal) (fun n h => (outsAt0 V c n h).2 (ix2 k 0)) 4 0
    (fun t => csTerm (iblk0 V c 0 t) k)
    (fun t h => cs_A V c t h k) (fun t h => cs_BC V c t h k) (le_of_eq N_0) t0_3 rfl
  exact h.trans (zero_add _)

/-- What the last block writes: the logarithm of the rescaled smoothed thresholds. -/
theorem lt_last (c : Dev nD) (k : Fin 1000) :
    (outsAt0 V c t0_3.val t0_3.isLt).1 (ix3 0 k 0)
      = Ideal.log (rescale (fun k => smooth (iblk0 V c 1 t0_3 (ix3 0 k 0))
          ((∑ t : Fin cfg0.N, csTerm (iblk0 V c 0 t) k) * Ideal.ofBits .f32 0x38800000#32)) k) := by
  have h : (outsAt0 V c t0_3.val t0_3.isLt).1 = k0_pay3 (F := Ideal) (outsAt0 V c t0_3.val t0_3.isLt).2 (iblk0 V c 1 t0_3) := by
    rw [outsAt0_C V c t0_3 (by decide) (by decide)]
    frame_out
  rw [h]
  refine (pay0_3_at _ _ k).trans ?_
  simp only [cs_last]

end Cert.Kernel.Main

end
-- ==== Proof.PayLoss.lean ====
module

public import proofs.«01_k».proof.Proof.Spec
public import proofs.«01_k».proof.Proof.Gen.Kernel.Skeleton

@[expose] public section

set_option maxRecDepth 16384

noncomputable section

namespace Cert.Kernel.Main

open Idealize.ShloMosaic Idealize.ShloMosaic.TcCoe Cert.Kernel Cert.Kernel.Gen Cert.Spec

theorem pay17_at (v0 : FVec Ideal S1x1000x1 .f32) (v2 : FVec Ideal S1000x2048 .f32) (v4 : FVec Ideal S512x2048 .f32)
    (v5 : FVec Ideal S1000x512 .f32) (v7 : FVec Ideal S1x512 .f32) :
    k1_pay17 (F := Ideal) (k1_pay8 v7) (k1_pay10 v5) (k1_pay12 v0 v5) (k1_pay14 v2 v4) (k1_pay15 v2 v4 v5) (k1_pay16 v2 v4 v5) (ix2 0 0)
      = ∑ j : Fin 512, kRow (fun c => v5 (ix2 c j)) (fun c => v0 (ix3 0 c 0)) (fun c => ∑ k : Fin 2048, v2 (ix2 c k) * v4 (ix2 j k)) * v7 (ix2 0 j) := by
  pointwise [k1_pay17, k1_pay8, k1_pay10, k1_pay12, k1_pay14, k1_pay15, k1_pay16, k1_pay11, k1_pay9, k1_pay7, k1_pay13, k1_pay6, k1_pay5, kRow, kFired, kGt, expSum, negInf]

/-- The second half's row losses are added to the first half's. -/
theorem pay30_at (v0 : FVec Ideal S1x1000x1 .f32) (v2 : FVec Ideal S1000x2048 .f32) (v55 : FVec Ideal S1x1 .f32) (v62 : FVec Ideal S512x2048 .f32)
    (v63 : FVec Ideal S1000x512 .f32) (v65 : FVec Ideal S1x512 .f32) :
    k1_pay30 (F := Ideal) (k1_pay6 v2) v55 v62 (k1_pay20 v63) (k1_pay21 v65) (k1_pay22 v63) (k1_pay23 v63) (k1_pay24 v63) (k1_pay25 (F := Ideal) (k1_pay5 v0) v63)
        (Scalar.ofBits .f32 0x00000000#32) k1_pay26 (ix2 0 0)
      = v55 (ix2 0 0) + ∑ j : Fin 512, kRow (fun c => v63 (ix2 c j)) (fun c => v0 (ix3 0 c 0)) (fun c => ∑ k : Fin 2048, v2 (ix2 c k) * v62 (ix2 j k)) * v65 (ix2 0 j) := by
  pointwise [k1_pay30, k1_pay20, k1_pay21, k1_pay22, k1_pay23, k1_pay24, k1_pay25, k1_pay26, k1_pay27, k1_pay28, k1_pay6, k1_pay5, kRow, kFired, kGt, expSum, negInf]

end Cert.Kernel.Main

end
-- ==== Proof.Outs1.lean ====
module

public import proofs.«01_k».proof.Proof.Region1
public import proofs.«01_k».proof.Proof.Pay
public import proofs.«01_k».proof.Proof.PayLoss
public import Idealize.ShloMosaic.Lib.Pipeline.ValueKit

@[expose] public section

set_option maxRecDepth 16384

noncomputable section

namespace Cert.Kernel.Main

open Idealize.ShloMosaic Idealize.ShloMosaic.TcCoe Idealize.SL.Sem Cert.Kernel Cert.Kernel.Gen Cert.Spec

/-- A column of the block's first half. -/
abbrev lo (j : Fin 512) : Fin 1024 := ⟨j.val, by omega⟩
/-- A column of the block's second half. -/
abbrev hi (j : Fin 512) : Fin 1024 := ⟨512 + j.val, by omega⟩

theorem sum_halves (f : Fin 1024 → EReal) : (∑ j, f (lo j)) + ∑ j, f (hi j) = ∑ j, f j :=
  (Fin.sum_univ_add (a := 512) (b := 512) f).symm

/-- What a block adds to the loss. -/
def lossTerm (x0 : FVec Ideal S1024x2048 .f32) (x1 : FVec Ideal S1000x1024 .f32) (x2 : FVec Ideal S1000x2048 .f32) (x3 : FVec Ideal S1x1024 .f32)
    (x4 : FVec Ideal S1x1000x1 .f32) : EReal :=
  ∑ j : Fin 1024, kRow (fun c => x1 (ix2 c j)) (fun c => x4 (ix3 0 c 0)) (fun c => ∑ k : Fin 2048, x2 (ix2 c k) * x0 (ix2 j k)) * x3 (ix2 0 j)

/-- What a block adds to the frequency of class `c`. -/
def freqTerm (x1 : FVec Ideal S1000x1024 .f32) (x4 : FVec Ideal S1x1000x1 .f32) (c : Fin 1000) : EReal :=
  (∑ j : Fin 1024, kGt (fun c => x1 (ix2 c j)) (fun c => x4 (ix3 0 c 0)) c)
    + if c.val = 0 then ∑ j : Fin 1024, (1 - kFired (fun c => x1 (ix2 c j)) (fun c => x4 (ix3 0 c 0))) else 0

theorem blkLoss (x0 : FVec Ideal S1024x2048 .f32) (x1 : FVec Ideal S1000x1024 .f32) (x2 : FVec Ideal S1000x2048 .f32) (x3 : FVec Ideal S1x1024 .f32)
    (x4 : FVec Ideal S1x1000x1 .f32) (acc : FVec Ideal S1x1x1 .f32)
    (v4 v62 : FVec Ideal S512x2048 .f32) (v5 v63 : FVec Ideal S1000x512 .f32) (v7 v65 : FVec Ideal S1x512 .f32)
    (h4 : ∀ j k, v4 (ix2 j k) = x0 (ix2 (lo j) k)) (h62 : ∀ j k, v62 (ix2 j k) = x0 (ix2 (hi j) k))
    (h5 : ∀ c j, v5 (ix2 c j) = x1 (ix2 c (lo j))) (h63 : ∀ c j, v63 (ix2 c j) = x1 (ix2 c (hi j)))
    (h7 : ∀ j, v7 (ix2 0 j) = x3 (ix2 0 (lo j))) (h65 : ∀ j, v65 (ix2 0 j) = x3 (ix2 0 (hi j))) :
    k1_pay3 (F := Ideal) (k1_pay30 (F := Ideal) (k1_pay6 x2)
        (k1_pay17 (k1_pay8 v7) (k1_pay10 v5) (k1_pay12 x4 v5) (k1_pay14 x2 v4) (k1_pay15 x2 v4 v5) (k1_pay16 x2 v4 v5)) v62
        (k1_pay20 v63) (k1_pay21 v65) (k1_pay22 v63) (k1_pay23 v63) (k1_pay24 v63) (k1_pay25 (F := Ideal) (k1_pay5 x4) v63)
        (Scalar.ofBits .f32 0x00000000#32) k1_pay26) acc (ix3 0 0 0)
      = acc (ix3 0 0 0) + lossTerm x0 x1 x2 x3 x4 := by
  rw [pay3_at, pay30_at, pay17_at, lossTerm, ← sum_halves]
  simp only [h4, h62, h5, h63, h7, h65]

theorem blkFreq (x1 : FVec Ideal S1000x1024 .f32) (x4 : FVec Ideal S1x1000x1 .f32) (acc : FVec Ideal S1x1000x1 .f32)
    (v5 v63 : FVec Ideal S1000x512 .f32)
    (h5 : ∀ c j, v5 (ix2 c j) = x1 (ix2 c (lo j))) (h63 : ∀ c j, v63 (ix2 c j) = x1 (ix2 c (hi j))) (c : Fin 1000) :
    k1_pay4 (F := Ideal) (k1_pay19 (k1_pay12 x4 v5)) (k1_pay29 (k1_pay25 (F := Ideal) (k1_pay5 x4) v63) (Scalar.ofBits .f32 0x00000000#32) k1_pay26)
        (k1_pay31 (k1_pay18 (k1_pay11 x4 v5)) (k1_pay25 (F := Ideal) (k1_pay5 x4) v63) (Scalar.ofBits .f32 0x00000000#32) k1_pay26) acc (ix3 0 c 0)
      = acc (ix3 0 c 0) + freqTerm x1 x4 c := by
  rw [pay4_at, pay19_at, pay29_at, pay31_at, freqTerm, ← sum_halves, ← sum_halves]
  simp only [h5, h63]

variable (V : (c : Dev nD) → (b : Ref sig .tc) → Buf (Elt Ideal) ((c : Thread nD τ).loc b))

theorem loss_A (c : Dev nD) (t : Fin cfg1.N) (h0 : t.val % 16 = 0) :
    (outsAt1 V c t.val t.isLt).1 (ix3 0 0 0)
      = (0 : EReal) + lossTerm (iblk1 V c 0 t) (iblk1 V c 1 t) (iblk1 V c 2 t) (iblk1 V c 3 t) (iblk1 V c 4 t) := by
  rw [outsAt1_A V c t h0]
  frame_out
  refine (blkLoss (iblk1 V c 0 t) (iblk1 V c 1 t) (iblk1 V c 2 t) (iblk1 V c 3 t) (iblk1 V c 4 t) _ _ _ _ _ _ _ ?_ ?_ ?_ ?_ ?_ ?_).trans ?_
  · intro j k; pointwise
  · intro j k; pointwise
  · intro j k; pointwise
  · intro j k; pointwise
  · intro j; pointwise
  · intro j; pointwise
  · pointwise [k1_pay1]

theorem loss_B (c : Dev nD) (t : Fin cfg1.N) (h0 : ¬t.val % 16 = 0) :
    (outsAt1 V c t.val t.isLt).1 (ix3 0 0 0)
      = (show EReal from (outsAt1 V c (t.val - 1) (Nat.lt_of_le_of_lt (Nat.sub_le _ _) t.isLt)).1 (ix3 0 0 0))
        + lossTerm (iblk1 V c 0 t) (iblk1 V c 1 t) (iblk1 V c 2 t) (iblk1 V c 3 t) (iblk1 V c 4 t) := by
  rw [outsAt1_B V c t h0]
  frame_out
  refine (blkLoss (iblk1 V c 0 t) (iblk1 V c 1 t) (iblk1 V c 2 t) (iblk1 V c 3 t) (iblk1 V c 4 t) _ _ _ _ _ _ _ ?_ ?_ ?_ ?_ ?_ ?_).trans ?_
  · intro j k; pointwise
  · intro j k; pointwise
  · intro j k; pointwise
  · intro j k; pointwise
  · intro j; pointwise
  · intro j; pointwise
  · rfl

theorem freq_A (c : Dev nD) (t : Fin cfg1.N) (h0 : t.val % 16 = 0) (k : Fin 1000) :
    (outsAt1 V c t.val t.isLt).2 (ix3 0 k 0) = (0 : EReal) + freqTerm (iblk1 V c 1 t) (iblk1 V c 4 t) k := by
  rw [outsAt1_A V c t h0]
  frame_out
  refine (blkFreq (iblk1 V c 1 t) (iblk1 V c 4 t) _ _ _ ?_ ?_ k).trans ?_
  · intro j k; pointwise
  · intro j k; pointwise
  · pointwise [k1_pay2]

theorem freq_B (c : Dev nD) (t : Fin cfg1.N) (h0 : ¬t.val % 16 = 0) (k : Fin 1000) :
    (outsAt1 V c t.val t.isLt).2 (ix3 0 k 0)
      = (show EReal from (outsAt1 V c (t.val - 1) (Nat.lt_of_le_of_lt (Nat.sub_le _ _) t.isLt)).2 (ix3 0 k 0))
        + freqTerm (iblk1 V c 1 t) (iblk1 V c 4 t) k := by
  rw [outsAt1_B V c t h0]
  frame_out
  refine (blkFreq (iblk1 V c 1 t) (iblk1 V c 4 t) _ _ _ ?_ ?_ k).trans ?_
  · intro j k; pointwise
  · intro j k; pointwise
  · rfl

/-- The loss' accumulator after the last block. -/
theorem loss_last (c : Dev nD) :
    (outsAt1 V c t1_15.val t1_15.isLt).1 (ix3 0 0 0)
      = ∑ t : Fin cfg1.N, lossTerm (iblk1 V c 0 t) (iblk1 V c 1 t) (iblk1 V c 2 t) (iblk1 V c 3 t) (iblk1 V c 4 t) := by
  have h := Pipeline.eq_sum_fin_of_reset_step_last (M := EReal) (fun n h => (outsAt1 V c n h).1 (ix3 0 0 0)) 16 0
    (fun t => lossTerm (iblk1 V c 0 t) (iblk1 V c 1 t) (iblk1 V c 2 t) (iblk1 V c 3 t) (iblk1 V c 4 t))
    (loss_A V c) (loss_B V c) (le_of_eq N_1) t1_15 rfl
  exact h.trans (zero_add _)

/-- A frequency's accumulator after the last block. -/
theorem freq_last (c : Dev nD) (k : Fin 1000) :
    (outsAt1 V c t1_15.val t1_15.isLt).2 (ix3 0 k 0)
      = ∑ t : Fin cfg1.N, freqTerm (iblk1 V c 1 t) (iblk1 V c 4 t) k := by
  have h := Pipeline.eq_sum_fin_of_reset_step_last (M := EReal) (fun n h => (outsAt1 V c n h).2 (ix3 0 k 0)) 16 0
    (fun t => freqTerm (iblk1 V c 1 t) (iblk1 V c 4 t) k)
    (fun t h => freq_A V c t h k) (fun t h => freq_B V c t h k) (le_of_eq N_1) t1_15 rfl
  exact h.trans (zero_add _)

end Cert.Kernel.Main

end
-- ==== Proof.Arr.lean ====
module

public import proofs.«01_k».proof.Proof.Run
public import proofs.«01_k».proof.Proof.Outs0
public import proofs.«01_k».proof.Proof.Outs1
public import Idealize.ShloMosaic.Lib.Pipeline.ValueKit

@[expose] public section

set_option maxRecDepth 16384

noncomputable section

/-! # The calls' blocks and result arrays at coordinates -/

namespace Cert.Kernel.Main

open Idealize.ShloMosaic Idealize.ShloMosaic.TcCoe Idealize.SL.Sem Cert.Kernel Cert.Kernel.Gen Cert.Spec

theorem idx0 : ∀ t : Fin cfg0.N, win0_0.index t = ![0, t.val] ∧ win0_1.index t = ![0, 0, 0] ∧ win0_2.index t = ![0, 0, 0] :=
  (by decide +kernel : ∀ t : Fin grid0.N, _)

theorem idx1 : ∀ t : Fin cfg1.N, win1_0.index t = ![t.val, 0] ∧ win1_1.index t = ![0, t.val] ∧ win1_2.index t = ![0, 0]
    ∧ win1_3.index t = ![0, t.val] ∧ win1_4.index t = ![0, 0, 0] ∧ win1_5.index t = ![0, 0, 0] ∧ win1_6.index t = ![0, 0, 0] :=
  (by decide +kernel : ∀ t : Fin grid1.N, _)

/-- Row `j` of block `t` of 4096 rows. -/
def row0 (t : Fin cfg0.N) (j : Fin 4096) : Fin 16384 := ⟨t.val * 4096 + j.val, by have h : t.val < 4 := t.isLt.trans_eq N_0; omega⟩
/-- Row `j` of block `t` of 1024 rows. -/
def row1 (t : Fin cfg1.N) (j : Fin 1024) : Fin 16384 := ⟨t.val * 1024 + j.val, by have h : t.val < 16 := t.isLt.trans_eq N_1; omega⟩

variable (V : (c : Dev nD) → (b : Ref sig .tc) → Buf (Elt Ideal) ((c : Thread nD τ).loc b))

theorem blk0_0 (c : Dev nD) (t : Fin cfg0.N) (k : Fin 1000) (j : Fin 4096) :
    iblk0 V c 0 t (ix2 k j) = V c main_v0 (ix2 k (row0 t j)) := by
  blk_ext [iblk0, idx0 t, row0]

theorem blk0_1 (c : Dev nD) (t : Fin cfg0.N) (k : Fin 1000) :
    iblk0 V c 1 t (ix3 0 k 0) = V c main_v3 (ix3 0 k 0) := by
  blk_ext [iblk0, idx0 t]

theorem blk1_0 (c : Dev nD) (t : Fin cfg1.N) (j : Fin 1024) (k : Fin 2048) :
    iblk1 V c 0 t (ix2 j k) = V c main_arg0 (ix2 (row1 t j) k) := by
  blk_ext [iblk1, idx1 t, row1]

theorem blk1_1 (c : Dev nD) (t : Fin cfg1.N) (k : Fin 1000) (j : Fin 1024) :
    iblk1 V c 1 t (ix2 k j) = V c main_v0 (ix2 k (row1 t j)) := by
  blk_ext [iblk1, idx1 t, row1]

theorem blk1_2 (c : Dev nD) (t : Fin cfg1.N) (k : Fin 1000) (l : Fin 2048) :
    iblk1 V c 2 t (ix2 k l) = V c main_v1 (ix2 k l) := by
  blk_ext [iblk1, idx1 t]

theorem blk1_3 (c : Dev nD) (t : Fin cfg1.N) (j : Fin 1024) :
    iblk1 V c 3 t (ix2 0 j) = V c main_v2 (ix2 0 (row1 t j)) := by
  blk_ext [iblk1, idx1 t, row1]

theorem blk1_4 (c : Dev nD) (t : Fin cfg1.N) (k : Fin 1000) :
    iblk1 V c 4 t (ix3 0 k 0) = V c main_v4 (ix3 0 k 0) := by
  blk_ext [iblk1, idx1 t]

theorem final0 (c : Dev nD) (k : Fin 1000) : (dat0 V c).arrAt 2 cfg0.N (ix3 0 k 0) = (outsAt0 V c t0_3.val t0_3.isLt).1 (ix3 0 k 0) := by
  have h : (dat0 V c).arrAt 2 cfg0.N = (outsAt0 V c t0_3.val t0_3.isLt).1 := by
    refine (dat0 V c).arrAt_eq_of_after_last 2 t0_3 (by decide +kernel) _ fun j => ?_
    rw [after0_2]
    blk_ext
  exact congrFun h _

theorem final1_5 (c : Dev nD) : (dat1 V c).arrAt 5 cfg1.N (ix3 0 0 0) = (outsAt1 V c t1_15.val t1_15.isLt).1 (ix3 0 0 0) := by
  have h : (dat1 V c).arrAt 5 cfg1.N = (outsAt1 V c t1_15.val t1_15.isLt).1 := by
    refine (dat1 V c).arrAt_eq_of_after_last 5 t1_15 (by decide +kernel) _ fun j => ?_
    rw [after1_5]
    blk_ext
  exact congrFun h _

theorem final1_6 (c : Dev nD) (k : Fin 1000) : (dat1 V c).arrAt 6 cfg1.N (ix3 0 k 0) = (outsAt1 V c t1_15.val t1_15.isLt).2 (ix3 0 k 0) := by
  have h : (dat1 V c).arrAt 6 cfg1.N = (outsAt1 V c t1_15.val t1_15.isLt).2 := by
    refine (dat1 V c).arrAt_eq_of_after_last 6 t1_15 (by decide +kernel) _ fun j => ?_
    rw [after1_6]
    blk_ext
  exact congrFun h _

/-! ## What the calls are entered with -/

variable (m : (ℓ : Loc nD τ sig) → Buf (Elt Ideal) ℓ)

theorem E1_v0 (c : Dev nD) (k : Fin 1000) (i : Fin 16384) :
    E1 m c main_v0 (ix2 k i) = m ((c : Thread nD τ).loc main_arg1) (ix2 i k) := by
  show StableHlo.after hostOps0 (W0 m c) (Proc.devRef .tc main_v0) (ix2 k i) = _
  after_results
  pointwise

theorem E1_v1 (c : Dev nD) (k : Fin 1000) (i : Fin 2048) :
    E1 m c main_v1 (ix2 k i) = m ((c : Thread nD τ).loc main_arg4) (ix2 i k) := by
  show StableHlo.after hostOps0 (W0 m c) (Proc.devRef .tc main_v1) (ix2 k i) = _
  after_results
  pointwise

theorem E1_v2 (c : Dev nD) (i : Fin 16384) :
    E1 m c main_v2 (ix2 0 i) = m ((c : Thread nD τ).loc main_arg2) (ix1 i) := by
  show StableHlo.after hostOps0 (W0 m c) (Proc.devRef .tc main_v2) (ix2 0 i) = _
  after_results
  pointwise

theorem E1_v3 (c : Dev nD) (k : Fin 1000) :
    E1 m c main_v3 (ix3 0 k 0) = m ((c : Thread nD τ).loc main_arg3) (ix1 k) := by
  show StableHlo.after hostOps0 (W0 m c) (Proc.devRef .tc main_v3) (ix3 0 k 0) = _
  after_results
  pointwise

theorem E2_v0 (c : Dev nD) : E2 m c main_v0 = E1 m c main_v0 :=
  (Pipeline.afterRegion_arr (dat0 (E1 m) c) (W1 m c) launch0.win.arr_inj 0).trans <|
    ((dat0 (E1 m) c).arrAt_in 0 rfl _).trans (A0_eq (E1 m) c 0)

theorem E2_v1 (c : Dev nD) : E2 m c main_v1 = E1 m c main_v1 :=
  Pipeline.afterRegion_of_not_arr (dat0 (E1 m) c) (W1 m c) (by decide)

theorem E2_v2 (c : Dev nD) : E2 m c main_v2 = E1 m c main_v2 :=
  Pipeline.afterRegion_of_not_arr (dat0 (E1 m) c) (W1 m c) (by decide)

theorem E2_arg0 (c : Dev nD) : E2 m c main_arg0 = m ((c : Thread nD τ).loc main_arg0) :=
  (Pipeline.afterRegion_of_not_arr (dat0 (E1 m) c) (W1 m c) (by decide)).trans <|
    StableHlo.after_of_writes_sub hostOps0 _ hostOps0_writes (by decide)

theorem E2_v4 (c : Dev nD) (k : Fin 1000) :
    E2 m c main_v4 (ix3 0 k 0) = (outsAt0 (E1 m) c t0_3.val t0_3.isLt).1 (ix3 0 k 0) := by
  have h : E2 m c main_v4 = (dat0 (E1 m) c).arrAt 2 cfg0.N :=
    Pipeline.afterRegion_arr (dat0 (E1 m) c) (W1 m c) launch0.win.arr_inj 2
  rw [h]
  exact final0 (E1 m) c k

theorem W3_v5_0 (c : Dev nD) :
    W3 m c (Proc.devRef .tc main_v5_0) (ix3 0 0 0) = (outsAt1 (E2 m) c t1_15.val t1_15.isLt).1 (ix3 0 0 0) := by
  have h : W3 m c (Proc.devRef .tc main_v5_0) = (dat1 (E2 m) c).arrAt 5 cfg1.N :=
    Pipeline.afterRegion_arr (dat1 (E2 m) c) (W2 m c) launch1.win.arr_inj 5
  rw [h]
  exact final1_5 (E2 m) c

theorem W3_v5_1 (c : Dev nD) (k : Fin 1000) :
    W3 m c (Proc.devRef .tc main_v5_1) (ix3 0 k 0) = (outsAt1 (E2 m) c t1_15.val t1_15.isLt).2 (ix3 0 k 0) := by
  have h : W3 m c (Proc.devRef .tc main_v5_1) = (dat1 (E2 m) c).arrAt 6 cfg1.N :=
    Pipeline.afterRegion_arr (dat1 (E2 m) c) (W2 m c) launch1.win.arr_inj 6
  rw [h]
  exact final1_6 (E2 m) c k

theorem W4_v7 (c : Dev nD) (j) :
    W4 m c (Proc.devRef .tc main_v7) j
      = Ideal.div (W3 m c (Proc.devRef .tc main_v5_0) (ix3 0 0 0)) (Ideal.ofBits .f32 0x46800000#32) := by
  show StableHlo.after hostOps2 (W3 m c) (Proc.devRef .tc main_v7) j = _
  after_results
  pointwise
  exact congrArg (fun x => Ideal.div x _) ((Fin.sum_univ_one _).trans ((Fin.sum_univ_one _).trans (Fin.sum_univ_one _)))

theorem W4_v8 (c : Dev nD) (k : Fin 1000) :
    W4 m c (Proc.devRef .tc main_v8) (ix1 k) = W3 m c (Proc.devRef .tc main_v5_1) (ix3 0 k 0) := by
  show StableHlo.after hostOps2 (W3 m c) (Proc.devRef .tc main_v8) (ix1 k) = _
  after_results
  pointwise

end Cert.Kernel.Main

end
-- ==== Proof.KSpec.lean ====
module

public import proofs.«01_k».proof.Proof.Spec

@[expose] public section

noncomputable section

/-! # The kernel's two results, as functions of the arguments' entries -/

namespace Cert.Spec

open Idealize.ShloMosaic

/-- The logarithm of the thresholds. -/
def kLT (Y : Fin 16384 → Fin 1000 → EReal) (T : Fin 1000 → EReal) (k : Fin 1000) : EReal :=
  Ideal.log (rescale (fun k => smooth (T k) ((∑ i, Ideal.exp (Y i k) * Ideal.div 1 (expSum (Y i))) * Ideal.ofBits .f32 0x38800000#32)) k)

/-- The kernel's loss. -/
def kLoss (X : Fin 16384 → Fin 2048 → EReal) (Y : Fin 16384 → Fin 1000 → EReal) (M : Fin 16384 → EReal) (T : Fin 1000 → EReal)
    (W : Fin 2048 → Fin 1000 → EReal) : EReal :=
  Ideal.div (∑ i, kRow (Y i) (kLT Y T) (fun k => ∑ l, W l k * X i l) * M i) (Ideal.ofBits .f32 0x46800000#32)

/-- The kernel's class frequencies. -/
def kFreq (Y : Fin 16384 → Fin 1000 → EReal) (T : Fin 1000 → EReal) (k : Fin 1000) : EReal :=
  (∑ i, kGt (Y i) (kLT Y T) k) + if k.val = 0 then ∑ i, (1 - kFired (Y i) (kLT Y T)) else 0

end Cert.Spec

end
-- ==== Proof.KVal.lean ====
module

public import proofs.«01_k».proof.Proof.Arr
public import proofs.«01_k».proof.Proof.KSpec

@[expose] public section

set_option maxRecDepth 16384

noncomputable section

/-! # What the run leaves in the kernel's two results -/

namespace Cert.Kernel.Main

open Idealize.ShloMosaic Idealize.ShloMosaic.TcCoe Idealize.SL.Sem Cert.Kernel Cert.Kernel.Gen Cert.Spec

variable (m : (ℓ : Loc nD τ sig) → Buf (Elt Ideal) ℓ) (c : Dev nD)

/-- The arguments' entries. -/
abbrev argX (i : Fin 16384) (l : Fin 2048) : EReal := m ((c : Thread nD τ).loc main_arg0) (ix2 i l)
abbrev argY (i : Fin 16384) (k : Fin 1000) : EReal := m ((c : Thread nD τ).loc main_arg1) (ix2 i k)
abbrev argM (i : Fin 16384) : EReal := m ((c : Thread nD τ).loc main_arg2) (ix1 i)
abbrev argT (k : Fin 1000) : EReal := m ((c : Thread nD τ).loc main_arg3) (ix1 k)
abbrev argW (l : Fin 2048) (k : Fin 1000) : EReal := m ((c : Thread nD τ).loc main_arg4) (ix2 l k)

theorem sum_row0 (f : Fin 16384 → EReal) : ∑ t : Fin cfg0.N, ∑ j : Fin 4096, f (row0 t j) = ∑ i, f i :=
  Fin.sum_mul_add_fin cfg0.N 4096 f (by rw [show cfg0.N = 4 from N_0])

theorem sum_row1 (f : Fin 16384 → EReal) : ∑ t : Fin cfg1.N, ∑ j : Fin 1024, f (row1 t j) = ∑ i, f i :=
  Fin.sum_mul_add_fin cfg1.N 1024 f (by rw [show cfg1.N = 16 from N_1])

theorem y0_at (t : Fin cfg0.N) (k : Fin 1000) (j : Fin 4096) : iblk0 (E1 m) c 0 t (ix2 k j) = argY m c (row0 t j) k :=
  (blk0_0 (E1 m) c t k j).trans (E1_v0 m c k _)

theorem th_at (t : Fin cfg0.N) (k : Fin 1000) : iblk0 (E1 m) c 1 t (ix3 0 k 0) = argT m c k :=
  (blk0_1 (E1 m) c t k).trans (E1_v3 m c k)

/-- The first call's result. -/
theorem lt_val (k : Fin 1000) : E2 m c main_v4 (ix3 0 k 0) = kLT (argY m c) (argT m c) k := by
  refine ((E2_v4 m c k).trans (lt_last (E1 m) c k)).trans ?_
  unfold kLT csTerm
  simp only [y0_at, th_at]
  have h : ∀ k, ∑ t : Fin cfg0.N, ∑ j : Fin 4096, Ideal.exp (argY m c (row0 t j) k) * Ideal.div 1 (expSum fun k' => argY m c (row0 t j) k')
      = ∑ i, Ideal.exp (argY m c i k) * Ideal.div 1 (expSum (argY m c i)) :=
    fun k => sum_row0 (fun i => Ideal.exp (argY m c i k) * Ideal.div 1 (expSum (argY m c i)))
  simp only [h]

theorem x_at (t : Fin cfg1.N) (j : Fin 1024) (l : Fin 2048) : iblk1 (E2 m) c 0 t (ix2 j l) = argX m c (row1 t j) l :=
  (blk1_0 (E2 m) c t j l).trans (congrFun (E2_arg0 m c) _)

theorem y_at (t : Fin cfg1.N) (k : Fin 1000) (j : Fin 1024) : iblk1 (E2 m) c 1 t (ix2 k j) = argY m c (row1 t j) k :=
  (blk1_1 (E2 m) c t k j).trans ((congrFun (E2_v0 m c) _).trans (E1_v0 m c k _))

theorem w_at (t : Fin cfg1.N) (k : Fin 1000) (l : Fin 2048) : iblk1 (E2 m) c 2 t (ix2 k l) = argW m c l k :=
  (blk1_2 (E2 m) c t k l).trans ((congrFun (E2_v1 m c) _).trans (E1_v1 m c k _))

theorem mask_at (t : Fin cfg1.N) (j : Fin 1024) : iblk1 (E2 m) c 3 t (ix2 0 j) = argM m c (row1 t j) :=
  (blk1_3 (E2 m) c t j).trans ((congrFun (E2_v2 m c) _).trans (E1_v2 m c _))

theorem lt_at (t : Fin cfg1.N) (k : Fin 1000) : iblk1 (E2 m) c 4 t (ix3 0 k 0) = kLT (argY m c) (argT m c) k :=
  (blk1_4 (E2 m) c t k).trans (lt_val m c k)

/-- The loss. -/
theorem loss_val (j) : W4 m c (Proc.devRef .tc main_v7) j = kLoss (argX m c) (argY m c) (argM m c) (argT m c) (argW m c) := by
  refine (W4_v7 m c j).trans (congrArg (fun x => Ideal.div x _) ?_)
  refine ((W3_v5_0 m c).trans (loss_last (E2 m) c)).trans ?_
  unfold lossTerm
  simp only [x_at, y_at, w_at, mask_at, lt_at]
  exact sum_row1 (fun i => kRow (argY m c i) (kLT (argY m c) (argT m c)) (fun k => ∑ l, argW m c l k * argX m c i l) * argM m c i)

/-- The class frequencies. -/
theorem freq_val (k : Fin 1000) : W4 m c (Proc.devRef .tc main_v8) (ix1 k) = kFreq (argY m c) (argT m c) k := by
  refine (W4_v8 m c k).trans (((W3_v5_1 m c k).trans (freq_last (E2 m) c k)).trans ?_)
  unfold freqTerm kFreq
  simp only [y_at, lt_at]
  rw [Finset.sum_add_distrib]
  refine congrArg₂ (· + ·) (sum_row1 (fun i => kGt (argY m c i) (kLT (argY m c) (argT m c)) k)) ?_
  split
  · exact sum_row1 (fun i => 1 - kFired (argY m c i) (kLT (argY m c) (argT m c)))
  · exact Finset.sum_const_zero

end Cert.Kernel.Main

end
-- ==== Proof.RSpec.lean ====
module

public import proofs.«01_k».proof.Proof.Spec

@[expose] public section

/-! What the reference computes, as functions on the extended reals. -/

noncomputable section

namespace Cert.Spec

open Idealize.ShloMosaic

/-- The largest entry of a row. -/
def rMax (y : Fin 1000 → EReal) : EReal := Finset.univ.fold max ⊥ fun k => y k

/-- The sum of the exponentials of a row less its largest entry. -/
def rSum (y : Fin 1000 → EReal) : EReal := ∑ c, Ideal.exp (y c - rMax y)

/-- A row's softmax. -/
def prob (y : Fin 1000 → EReal) (k : Fin 1000) : EReal := Ideal.div (Ideal.exp (y k - rMax y)) (rSum y)

/-- The logarithm of a row's softmax. -/
def logProb (o : Fin 1000 → EReal) (k : Fin 1000) : EReal := o k - rMax o - Ideal.log (rSum o)

/-- The smoothed thresholds, over all rows. -/
def rSmooth (Y : Fin 16384 → Fin 1000 → EReal) (T : Fin 1000 → EReal) (k : Fin 1000) : EReal :=
  smooth (T k) (Ideal.div (∑ i, prob (Y i) k) (Ideal.ofBits .f32 0x46800000#32))

/-- The thresholds. -/
def rTh (Y : Fin 16384 → Fin 1000 → EReal) (T : Fin 1000 → EReal) (k : Fin 1000) : EReal :=
  rescale (rSmooth Y T) k

/-- One where the probability exceeds the threshold, zero elsewhere. -/
def rGt (p h : Fin 1000 → EReal) (k : Fin 1000) : EReal := if h k < p k then 1 else 0

/-- One when some probability of the row exceeds its threshold, zero otherwise. -/
def rFired (p h : Fin 1000 → EReal) : EReal := Finset.univ.fold max ⊥ fun k => rGt p h k

/-- `k` is the first of the positions at which `f` is largest. -/
def First (f : Fin 1000 → EReal) (k : Fin 1000) : Prop := ∀ k', f k' < f k ∨ (f k' = f k ∧ k ≤ k')

/-- The row's loss before the mask, where `b` is the row's label. -/
def rRow (p : Fin 1000 → EReal) (f : EReal) (b : Fin 1000) (l : Fin 1000 → EReal) : EReal :=
  -∑ k, (f * Ideal.ofBits .f32 0x41200000#32 * (if b = k then 1 else 0) + (1 - f) * p k) * l k

/-- The loss, where `B` gives the rows' labels. -/
def rLoss (X : Fin 16384 → Fin 2048 → EReal) (Y : Fin 16384 → Fin 1000 → EReal) (M : Fin 16384 → EReal) (T : Fin 1000 → EReal)
    (W : Fin 2048 → Fin 1000 → EReal) (B : Fin 16384 → Fin 1000) : EReal :=
  Ideal.div (∑ i, rRow (prob (Y i)) (rFired (prob (Y i)) (rTh Y T)) (B i) (logProb fun k => ∑ l, X i l * W l k) * M i)
    (Ideal.ofBits .f32 0x46800000#32)

/-- How many rows have each label, where `B` gives the rows' labels. -/
def rFreq (B : Fin 16384 → Fin 1000) (k : Fin 1000) : EReal := ∑ i, if B i = k then 1 else 0

end Cert.Spec

end
-- ==== Proof.RefOps.lean ====
module

public import proofs.«01_k».proof.Proof.Gen.ReferenceIdeal
public import proofs.«01_k».proof.Proof.RSpec
public import Idealize.ShloMosaic.Lib.Routing.OpsPair
public import Idealize.ShloMosaic.Lib.StableHlo.Predicate
public import Idealize.ShloMosaic.Lib.ValueIdxRank1
public import Idealize.ShloMosaic.PureOps.Ideal.Laws

@[expose] public section

set_option maxRecDepth 16384

noncomputable section

/-! # The reference's position of the largest entry, and its count of labels -/

namespace Cert.ReferenceIdeal.Main

open Idealize.ShloMosaic Cert.ReferenceIdeal Cert.ReferenceIdeal.Gen Cert.Spec

/-- `r` is at least as good as `p`: its value is larger, or the same with no larger position. -/
def Le (p r : EReal × BitVec 32) : Prop := p.1 < r.1 ∨ (p.1 = r.1 ∧ r.2.toInt ≤ p.2.toInt)

theorem Le.refl (p : EReal × BitVec 32) : Le p p := Or.inr ⟨rfl, le_refl _⟩

theorem Le.trans {p q r : EReal × BitVec 32} (h : Le p q) (h' : Le q r) : Le p r := by
  rcases h with h | ⟨h, i⟩ <;> rcases h' with h' | ⟨h', i'⟩
  · exact Or.inl (h.trans h')
  · exact Or.inl (h' ▸ h)
  · exact Or.inl (h ▸ h')
  · exact Or.inr ⟨h.trans h', i'.trans i⟩

/-- One step of the search keeps one of the two pairs, one at least as good as both. -/
theorem step (a b : EReal × BitVec 32) :
    ((reducer_argmax_f32_i32 (F := Ideal) a b = a ∨ reducer_argmax_f32_i32 (F := Ideal) a b = b))
      ∧ Le a (reducer_argmax_f32_i32 (F := Ideal) a b) ∧ Le b (reducer_argmax_f32_i32 (F := Ideal) a b) := by
  obtain ⟨a1, a2⟩ := a
  obtain ⟨b1, b2⟩ := b
  have hne : (Ideal.cmp .une a1 a1) = 0#1 := by simp [Ideal.cmp]
  rcases lt_trichotomy a1 b1 with h | h | h
  · have h1 : Ideal.cmp .ogt a1 b1 = 0#1 := by simp [Ideal.cmp, not_lt.2 h.le]
    have h2 : Ideal.cmp .oeq a1 b1 = 0#1 := by simp [Ideal.cmp, h.ne]
    have e : reducer_argmax_f32_i32 (F := Ideal) (a1, a2) (b1, b2) = (b1, b2) := by
      simp [reducer_argmax_f32_i32, Ideal.cmpf_def, hne, h1, h2, IntOp.ori, IntOp.andi, Scalar.select]
    rw [e]
    exact ⟨Or.inr rfl, Or.inl h, Le.refl _⟩
  · subst h
    have h1 : Ideal.cmp .ogt a1 a1 = 0#1 := by simp [Ideal.cmp]
    have h2 : Ideal.cmp .oeq a1 a1 = 1#1 := by simp [Ideal.cmp]
    by_cases hlt : a2.toInt < b2.toInt
    · have h3 : IntOp.cmpi .slt a2 b2 = 1#1 := by simp [IntOp.cmpi, BitVec.slt, hlt]
      have e : reducer_argmax_f32_i32 (F := Ideal) (a1, a2) (a1, b2) = (a1, a2) := by
        simp [reducer_argmax_f32_i32, Ideal.cmpf_def, hne, h1, h2, h3, IntOp.ori, IntOp.andi, Scalar.select]
      rw [e]
      exact ⟨Or.inl rfl, Le.refl _, Or.inr ⟨rfl, hlt.le⟩⟩
    · have h3 : IntOp.cmpi .slt a2 b2 = 0#1 := by simp [IntOp.cmpi, BitVec.slt, hlt]
      have e : reducer_argmax_f32_i32 (F := Ideal) (a1, a2) (a1, b2) = (a1, b2) := by
        simp [reducer_argmax_f32_i32, Ideal.cmpf_def, hne, h1, h2, h3, IntOp.ori, IntOp.andi, Scalar.select]
      rw [e]
      exact ⟨Or.inr rfl, Or.inr ⟨rfl, not_lt.1 hlt⟩, Le.refl _⟩
  · have h1 : Ideal.cmp .ogt a1 b1 = 1#1 := by simp [Ideal.cmp, h]
    have e : reducer_argmax_f32_i32 (F := Ideal) (a1, a2) (b1, b2) = (a1, a2) := by
      have h2 : Ideal.cmp .oeq a1 b1 = 0#1 := by simp [Ideal.cmp, h.ne']
      simp [reducer_argmax_f32_i32, Ideal.cmpf_def, hne, h1, h2, IntOp.ori, IntOp.andi, Scalar.select]
    rw [e]
    exact ⟨Or.inl rfl, Le.refl _, Or.inl h⟩

/-- The search over a list, from a first pair, ends in one of the pairs, one at least as good as all. -/
theorem search (l : List (EReal × BitVec 32)) : ∀ p : EReal × BitVec 32,
    l.foldl (reducer_argmax_f32_i32 (F := Ideal)) p ∈ p :: l ∧ ∀ q ∈ p :: l, Le q (l.foldl (reducer_argmax_f32_i32 (F := Ideal)) p) := by
  induction l with
  | nil => intro p; exact ⟨List.mem_singleton.2 rfl, fun q hq => by rw [List.mem_singleton.1 hq]; exact Le.refl _⟩
  | cons a l ih =>
    intro p
    obtain ⟨hs, hp, ha⟩ := step p a
    obtain ⟨hm, hall⟩ := ih (reducer_argmax_f32_i32 (F := Ideal) p a)
    rw [List.foldl_cons]
    have hr := hall _ List.mem_cons_self
    refine ⟨?_, fun q hq => ?_⟩
    · rcases List.mem_cons.1 hm with h | h
      · rw [h]
        rcases hs with h' | h' <;> rw [h'] <;> simp
      · exact List.mem_cons_of_mem _ (List.mem_cons_of_mem _ h)
    · rcases List.mem_cons.1 hq with h | h
      · rw [h]; exact hp.trans hr
      · rcases List.mem_cons.1 h with h | h
        · rw [h]; exact ha.trans hr
        · exact hall q (List.mem_cons_of_mem _ h)

/-- The pairs searched for an entry of the result are those of the positions that reduce to it. -/
theorem mem_fiber {s t : Shape} {axes : List (Fin s.rank)} (x : s.Idx → EReal) (y : s.Idx → BitVec 32) (h : s.ReducesTo axes t) (j : t.Idx)
    (p : EReal × BitVec 32) : p ∈ Host.argReduceFiber x y h j ↔ ∃ i, h.drop i = j ∧ (x i, y i) = p := by
  constructor
  · intro hp
    obtain ⟨n, hn, e⟩ := List.mem_map.1 hp
    exact ⟨_, of_decide_eq_true (List.mem_filter.1 hn).2, e⟩
  · rintro ⟨i, hi, e⟩
    refine List.mem_map.2 ⟨s.rowMajor i, List.mem_filter.2 ⟨List.mem_finRange _, ?_⟩, ?_⟩
    · rw [Equiv.symm_apply_apply]; exact decide_eq_true hi
    · rw [Equiv.symm_apply_apply]; exact e

/-- The search's result: one of the pairs searched or the first one, and at least as good as all. -/
theorem argReduce_spec {s t u : Shape} {axes : List (Fin s.rank)} (x : FVec Ideal s .f32) (y : s.Idx → BitVec 32) (ix : FVec Ideal u .f32)
    (iy : u.Idx → BitVec 32) (h : s.ReducesTo axes t) (hu : 0 < u.numel) (hx : ∀ i, ix i = (⊥ : EReal)) (j : t.Idx)
    (i0 : s.Idx) (h0 : h.drop i0 = j) (h0' : (⊥ : EReal) < x i0) :
    ∃ i, h.drop i = j ∧ (x i, y i) = Host.argReduce (reducer_argmax_f32_i32 (F := Ideal)) x y ix iy h hu j
      ∧ ∀ i', h.drop i' = j → Le (x i', y i') (x i, y i) := by
  rw [Ideal.argReduce_eq_reduce2, Host.reduce2_eq_foldl_fiber]
  obtain ⟨hm, hall⟩ := search (Host.argReduceFiber x y h j) (ix (Shape.Idx.first hu), iy (Shape.Idx.first hu))
  generalize List.foldl (reducer_argmax_f32_i32 (F := Ideal)) _ _ = r at hm hall ⊢
  have hpos : (⊥ : EReal) < r.1 := by
    rcases hall _ (List.mem_cons_of_mem _ ((mem_fiber x y h j _).2 ⟨i0, h0, rfl⟩)) with g | ⟨g, _⟩
    · exact h0'.trans g
    · exact g ▸ h0'
  rcases List.mem_cons.1 hm with g | g
  · rw [g] at hpos
    exact absurd (show (⊥ : EReal) < ⊥ from (hx (Shape.Idx.first hu)) ▸ hpos) (lt_irrefl _)
  · obtain ⟨i, hi, e⟩ := (mem_fiber x y h j _).1 g
    exact ⟨i, hi, e, fun i' hi' => e ▸ hall _ (List.mem_cons_of_mem _ ((mem_fiber x y h j _).2 ⟨i', hi', rfl⟩))⟩

/-- The positions of the largest entries of an array's rows. -/
def argmax (x : FVec Ideal S16384x1000 .f32) : IVec S16384 32 := fun j =>
  (Host.argReduce (reducer_argmax_f32_i32 (F := Ideal)) x (iotaInDim S16384x1000 32 1) (constant S_ .f32 0xFF800000#32) (constantI S_ 32 0#32)
    Facts₀.reducesTo_S16384x1000_S16384_d1 Facts₀.h_S_ j).2

theorem drop_row (h : S16384x1000.ReducesTo [1] S16384) (a : Fin 16384) (k : Fin 1000) : h.drop (ix2 a k) = ix1 a := by
  funext b
  match b with
  | ⟨0, _⟩ => exact Fin.ext (Shape.ReducesTo.drop_apply_val h (ix2 a k) 0)

theorem drop_row' (h : S16384x1000.ReducesTo [1] S16384) (a : Fin 16384) (i : S16384x1000.Idx) (hi : h.drop i = ix1 a) :
    ∃ k : Fin 1000, i = ix2 a k := by
  obtain ⟨a', k, rfl⟩ : ∃ (a' : Fin 16384) (k : Fin 1000), i = ix2 a' k := ⟨i 0, i 1, eq_ix2 i⟩
  rw [drop_row] at hi
  exact ⟨k, congrArg (fun b => ix2 b k) ((ix1_inj _ _).1 hi)⟩

theorem toInt_small (k : Fin 1000) : (BitVec.ofNat 32 k.val).toInt = (k.val : Int) :=
  StableHlo.Predicate.toInt_ofNat_small _ (by have := k.isLt; omega)

theorem iota_at (a : Fin 16384) (k : Fin 1000) : iotaInDim S16384x1000 32 1 (ix2 a k) = BitVec.ofNat 32 k.val := rfl

/-- A row's one update lands at its index. -/
theorem lands (idx : IVec S16384x1 32) (i : Fin 16384) (b k : Fin 1000) (hb : idx (ix2 i 0) = BitVec.ofNat 32 b.val) :
    scatter_S1000_S16384x1_S16384_n_0_0_1.resultIdx? (ix1 i) idx = some (ix1 k) ↔ b = k := by
  have hm : (0 : Fin 1) ∈ scatter_S1000_S16384x1_S16384_n_0_0_1.scatterDimsToOperandDims := List.mem_singleton.2 rfl
  have hwin : scatter_S1000_S16384x1_S16384_n_0_0_1.window (ix1 i) 0 = 0 := by
    unfold ScatterDims.window
    exact dif_neg fun h => (of_decide_eq_true (List.mem_filter.1 h).2) (List.mem_singleton.2 rfl)
  have hstart : scatter_S1000_S16384x1_S16384_n_0_0_1.start (ix1 i) idx 0 = (b.val : Int) := by
    unfold ScatterDims.start
    rw [dif_pos hm]
    refine Eq.trans (congrArg (fun j => (idx j).toInt) ?_) ((congrArg BitVec.toInt hb).trans (toInt_small b))
    funext d
    match d with
    | ⟨0, _⟩ => rfl
    | ⟨1, _⟩ => exact Subsingleton.elim (α := Fin 1) _ _
  refine (Routing.resultIdx?_ix1 scatter_S1000_S16384x1_S16384_n_0_0_1 (ix1 i) idx k).trans ?_
  rw [hstart, hwin, Fin.ext_iff]
  omega

/-- Adding updates at the rows' labels adds at each label those of its rows. -/
theorem scatter_at (x : FVec Ideal S1000 .f32) (idx : IVec S16384x1 32) (upd : FVec Ideal S16384 .f32) (B : Fin 16384 → Fin 1000)
    (hB : ∀ i, idx (ix2 i 0) = BitVec.ofNat 32 (B i).val) (k : Fin 1000) :
    Host.scatterAdd scatter_S1000_S16384x1_S16384_n_0_0_1 x idx upd (ix1 k)
      = (x (ix1 k) + ∑ i, if B i = k then upd (ix1 i) else 0 : EReal) := by
  show (x (ix1 k) + ∑ j ∈ Finset.univ.filter (fun j => scatter_S1000_S16384x1_S16384_n_0_0_1.resultIdx? j idx = some (ix1 k)), upd j : EReal) = _
  rw [Finset.sum_filter, ← Equiv.sum_comp (ValueIdx.idxEquiv1 (n := 16384)).symm]
  refine congrArg (x (ix1 k) + ·) (Finset.sum_congr rfl fun i _ => ?_)
  have h := lands idx i (B i) k (hB i)
  show (if scatter_S1000_S16384x1_S16384_n_0_0_1.resultIdx? (ix1 i) idx = some (ix1 k) then upd (ix1 i) else 0) = _
  by_cases e : B i = k
  · rw [if_pos (h.2 e), if_pos e]
  · rw [if_neg (fun g => e (h.1 g)), if_neg e]

end Cert.ReferenceIdeal.Main

end
-- ==== Proof.RefArg.lean ====
module

public import proofs.«01_k».proof.Proof.RefOps
public import proofs.«01_k».proof.Proof.RSpec
public import Idealize.ShloMosaic.Lib.Routing.OpsPair
public import Idealize.ShloMosaic.Lib.StableHlo.Predicate
public import Idealize.ShloMosaic.Lib.ValueIdxRank1
public import Idealize.ShloMosaic.PureOps.Ideal.Laws

@[expose] public section

set_option maxRecDepth 16384

noncomputable section

/-! # The reference's position of the largest entry, and its count of labels -/

namespace Cert.ReferenceIdeal.Main

open Idealize.ShloMosaic Cert.ReferenceIdeal Cert.ReferenceIdeal.Gen Cert.Spec

/-- The search along a row ends at one of its positions, at least as good as all. -/
theorem argmax_row (x : FVec Ideal S16384x1000 .f32) (a : Fin 16384) (hx : ∀ k : Fin 1000, (⊥ : EReal) < x (ix2 a k)) (h : S16384x1000.ReducesTo [1] S16384)
    (hu : 0 < S_.numel) (ix : FVec Ideal S_ .f32) (hi : ∀ i, ix i = (⊥ : EReal)) (y : S16384x1000.Idx → BitVec 32) (iy : S_.Idx → BitVec 32) :
    ∃ k : Fin 1000, (Host.argReduce (reducer_argmax_f32_i32 (F := Ideal)) x y ix iy h hu (ix1 a)).2 = y (ix2 a k)
      ∧ ∀ k' : Fin 1000, Le (x (ix2 a k'), y (ix2 a k')) (x (ix2 a k), y (ix2 a k)) := by
  obtain ⟨i, hi, e, hall⟩ := argReduce_spec x y ix iy h hu hi (ix1 a) (ix2 a 0) (drop_row _ _ _) (hx 0)
  obtain ⟨k, rfl⟩ := drop_row' _ a i hi
  exact ⟨k, (congrArg Prod.snd e).symm, fun k' => hall _ (drop_row _ _ _)⟩

theorem argmax_def (x : FVec Ideal S16384x1000 .f32) : argmax x = fun j =>
    (Host.argReduce (reducer_argmax_f32_i32 (F := Ideal)) x (iotaInDim S16384x1000 32 1) (constant S_ .f32 0xFF800000#32) (constantI S_ 32 0#32)
      Facts₀.reducesTo_S16384x1000_S16384_d1 Facts₀.h_S_ j).2 := rfl

theorem argmax_pair (x : FVec Ideal S16384x1000 .f32) (a : Fin 16384) (hx : ∀ k : Fin 1000, (⊥ : EReal) < x (ix2 a k)) :
    ∃ k : Fin 1000, argmax x (ix1 a) = iotaInDim S16384x1000 32 1 (ix2 a k)
      ∧ ∀ k' : Fin 1000, Le (x (ix2 a k'), iotaInDim S16384x1000 32 1 (ix2 a k')) (x (ix2 a k), iotaInDim S16384x1000 32 1 (ix2 a k)) := by
  obtain ⟨k, e, h⟩ := argmax_row x a hx Facts₀.reducesTo_S16384x1000_S16384_d1 Facts₀.h_S_ (constant S_ .f32 0xFF800000#32) (fun _ => negInf)
    (iotaInDim S16384x1000 32 1) (constantI S_ 32 0#32)
  exact ⟨k, (congrFun (argmax_def x) (ix1 a)).trans e, h⟩

/-- In a row of entries above minus infinity, the position is that of the first largest entry. -/
theorem argmax_at (x : FVec Ideal S16384x1000 .f32) (a : Fin 16384) (hx : ∀ k : Fin 1000, (⊥ : EReal) < x (ix2 a k)) :
    ∃ k : Fin 1000, argmax x (ix1 a) = BitVec.ofNat 32 k.val ∧ First (fun k => x (ix2 a k)) k := by
  obtain ⟨k, e, h⟩ := argmax_pair x a hx
  refine ⟨k, e, fun k' => ?_⟩
  have h := h k'
  rw [iota_at, iota_at] at h
  rcases h with g | ⟨g, g'⟩
  · exact Or.inl g
  · refine Or.inr ⟨g, ?_⟩
    have g2 : (BitVec.ofNat 32 k.val).toInt ≤ (BitVec.ofNat 32 k'.val).toInt := g'
    rw [toInt_small, toInt_small] at g2
    exact Fin.le_def.2 (Int.ofNat_le.1 g2)

end Cert.ReferenceIdeal.Main

end
-- ==== Proof.RTerms.lean ====
module

public import proofs.«01_k».proof.Proof.RefArg
public import Idealize.ShloMosaic.Lib.Pointwise

@[expose] public section

set_option maxRecDepth 16384

noncomputable section

/-! # The reference's arrays, as compositions of its operations, and their entries -/

namespace Cert.ReferenceIdeal.Main

open Idealize.ShloMosaic Cert.ReferenceIdeal Cert.Spec Facts₀

abbrev Mat := FVec Ideal S16384x1000 .f32
abbrev Col := FVec Ideal S16384 .f32
abbrev Row := FVec Ideal S1000 .f32

/-- A column repeated over the classes. -/
def over (v : FVec Ideal S16384x1 .f32) : Mat := broadcastInDim S16384x1000 ![0, 1] bcast_S16384x1_S16384x1000_0_1 v
/-- A vector as a column. -/
def col (v : Col) : FVec Ideal S16384x1 .f32 := broadcastInDim S16384x1 ![0] bcast_S16384_S16384x1_0 v
/-- A literal over the rows. -/
def fillCol (b : BitVec 32) : Col := broadcastInDim S16384 ![] bcast_S_S16384 (constant (F := Ideal) S_ .f32 b)
/-- A literal over the classes. -/
def fillRow (b : BitVec 32) : Row := broadcastInDim S1000 ![] bcast_S_S1000 (constant (F := Ideal) S_ .f32 b)

/-- The largest entries of the rows. -/
def maxes (y : Mat) : Col :=
  Host.reduce FloatOps.maximumf y (constant (F := Ideal) S_ .f32 0xFF800000#32) reducesTo_S16384x1000_S16384_d1 h_S_
/-- The sums of the rows. -/
def sums (y : Mat) : Col := Host.reduceAdd y (constant (F := Ideal) S_ .f32 0x00000000#32) reducesTo_S16384x1000_S16384_d1 h_S_
/-- The rows less their largest entries. -/
def shifted (y : Mat) : Mat := subf y (over (col (maximumf (fillCol 0xFF800000#32) (maxes y))))
/-- The rows' softmax. -/
def probs (y : Mat) : Mat := Host.divf (Host.exp (shifted y)) (over (col (sums (Host.exp (shifted y)))))
/-- The logarithm of the rows' softmax. -/
def logSoftmax (o : Mat) : Mat := subf (shifted o) (over (Host.log (col (sums (Host.exp (shifted o))))))

/-- The smoothed thresholds. -/
def smoothed (p : Mat) (t : Row) : Row :=
  addf (mulf t (fillRow 0x3F7D70A4#32)) (mulf (fillRow 0x3C23D70A#32)
    (Host.divf (Host.reduceAdd p (constant (F := Ideal) S_ .f32 0x00000000#32) reducesTo_S16384x1000_S1000_d0 h_S_) (fillRow 0x46800000#32)))
/-- The least and the largest of the thresholds. -/
def least (t : Row) : FVec Ideal S_ .f32 :=
  Host.reduce FloatOps.minimumf t (constant (F := Ideal) S_ .f32 0x7F800000#32) reducesTo_S1000_S_d0 h_S_
def most (t : Row) : FVec Ideal S_ .f32 :=
  Host.reduce FloatOps.maximumf t (constant (F := Ideal) S_ .f32 0xFF800000#32) reducesTo_S1000_S_d0 h_S_
/-- The thresholds rescaled. -/
def rescaled (t : Row) : Row :=
  addf (mulf (Host.divf (subf t (broadcastInDim S1000 ![] bcast_S_S1000 (least t)))
    (broadcastInDim S1000 ![] bcast_S_S1000 (subf (most t) (least t)))) (fillRow 0x3E19999A#32)) (fillRow 0x3F4CCCCD#32)

/-- Ones where the probabilities exceed the thresholds. -/
def above (p : Mat) (h : Row) : Mat :=
  uitofp .f32 (cmpf .ogt p (broadcastInDim S16384x1000 ![0, 1] bcast_S1x1000_S16384x1000_0_1 (broadcastInDim S1x1000 ![1] bcast_S1000_S1x1000_1 h)))

/-- Ones at the given positions. -/
def oneHot (v : IVec S16384 32) : Mat :=
  uitofp .f32 (cmpi .eq (broadcastInDim S16384x1000 ![0, 1] bcast_S16384x1_S16384x1000_0_1 (broadcastInDim S16384x1 ![0] bcast_S16384_S16384x1_0 v))
    (broadcastInDim S16384x1000 ![0, 1] bcast_S1x1000_S16384x1000_0_1 (iotaInDim S1x1000 32 1)))

/-- A position counted from the end when negative, as a column. -/
def wrapped (v : IVec S16384 32) : IVec S16384x1 32 :=
  broadcastInDim S16384x1 ![0] bcast_S16384_S16384x1_0
    (select (cmpi .slt v (broadcastInDim S16384 ![] bcast_S_S16384 (constantI S_ 32 0#32)))
      (addi v (broadcastInDim S16384 ![] bcast_S_S16384 (constantI S_ 32 1000#32))) v)

/-- How many rows have each label. -/
def counts (v : IVec S16384 32) : Row :=
  Host.scatterAdd scatter_S1000_S16384x1_S16384_n_0_0_1 (fillRow 0x00000000#32) (wrapped v) (fillCol 0x3F800000#32)

/-- The weights of the logarithms in the loss. -/
def weights (f : Col) (b p : Mat) : Mat :=
  addf (mulf (over (mulf (col f) (broadcastInDim S16384x1 ![] bcast_S_S16384x1 (constant (F := Ideal) S_ .f32 0x41200000#32)))) b)
    (mulf (over (col (subf (fillCol 0x3F800000#32) f))) p)

/-- The loss. -/
def lossOf (w l : Mat) (mask : Col) : FVec Ideal S_ .f32 :=
  Host.divf (Host.reduceAdd (mulf (Host.negf (sums (mulf w l))) mask) (constant (F := Ideal) S_ .f32 0x00000000#32) reducesTo_S16384_S_d0 h_S_)
    (constant (F := Ideal) S_ .f32 0x46800000#32)

/-- The product of the features and the weights. -/
def product (x : FVec Ideal S16384x2048 .f32) (w : FVec Ideal S2048x1000 .f32) : Mat :=
  Host.dotGeneral dot_S16384x2048_S2048x1000_S16384x1000_1_0_0_1_n_n none x w

end Cert.ReferenceIdeal.Main

end
-- ==== Proof.REntA.lean ====
module

public import proofs.«01_k».proof.Proof.RTerms

@[expose] public section

set_option maxRecDepth 16384

noncomputable section

namespace Cert.ReferenceIdeal.Main

open Idealize.ShloMosaic Cert.ReferenceIdeal Cert.Spec Facts₀

/-! The entries -/

theorem maxes_at (y : Mat) (i : Fin 16384) : maxes y (ix1 i) = rMax fun k => y (ix2 i k) := by
  pointwise [maxes, rMax, negInf]

theorem sums_at (y : Mat) (i : Fin 16384) : sums y (ix1 i) = (∑ k : Fin 1000, y (ix2 i k) : EReal) := by
  pointwise [sums]

theorem fillCol_at (b : BitVec 32) (i : Fin 16384) : fillCol b (ix1 i) = Ideal.ofBits .f32 b := by
  pointwise [fillCol]

theorem fillRow_at (b : BitVec 32) (k : Fin 1000) : fillRow b (ix1 k) = Ideal.ofBits .f32 b := by
  pointwise [fillRow]

theorem over_at (v : FVec Ideal S16384x1 .f32) (i : Fin 16384) (k : Fin 1000) : over v (ix2 i k) = v (ix2 i 0) := by
  pointwise [over]

theorem col_at (v : Col) (i : Fin 16384) : col v (ix2 i 0) = v (ix1 i) := by
  pointwise [col]

/-! Each operation on variable arrays, at an index -/

section
variable {s : Shape} (a b : FVec Ideal s .f32) (j : s.Idx)
theorem add_at : addf a b j = (a j + b j : EReal) := rfl
theorem sub_at : subf a b j = (a j - b j : EReal) := rfl
theorem mul_at : mulf a b j = (a j * b j : EReal) := rfl
theorem div_at : Host.divf a b j = Ideal.div (a j) (b j) := rfl
theorem max_at : maximumf a b j = max (a j : EReal) (b j) := rfl
theorem exp_at : Host.exp a j = Ideal.exp (a j) := rfl
theorem log_at : Host.log a j = Ideal.log (a j) := rfl
theorem neg_at : Host.negf a j = (-(a j) : EReal) := rfl
theorem lit_at (b : BitVec 32) : constant (F := Ideal) s .f32 b j = Ideal.ofBits .f32 b := rfl
end

theorem shifted_at (y : Mat) (i : Fin 16384) (k : Fin 1000) :
    shifted y (ix2 i k) = (y (ix2 i k) - rMax (fun k => y (ix2 i k)) : EReal) := by
  unfold shifted
  rw [sub_at, over_at, col_at, max_at, fillCol_at, maxes_at, negInf]
  exact congrArg (y (ix2 i k) - · : EReal → EReal) (max_eq_right bot_le)

theorem probs_at (y : Mat) (i : Fin 16384) (k : Fin 1000) : probs y (ix2 i k) = prob (fun k => y (ix2 i k)) k := by
  unfold probs prob rSum
  rw [div_at, over_at, col_at, sums_at, exp_at, shifted_at]
  simp only [exp_at, shifted_at]

theorem logSoftmax_at (o : Mat) (i : Fin 16384) (k : Fin 1000) : logSoftmax o (ix2 i k) = logProb (fun k => o (ix2 i k)) k := by
  unfold logSoftmax logProb rSum
  rw [sub_at, over_at, log_at, col_at, sums_at, shifted_at]
  simp only [exp_at, shifted_at]

theorem means_at (p : Mat) (k : Fin 1000) :
    Host.reduceAdd p (constant (F := Ideal) S_ .f32 0x00000000#32) reducesTo_S16384x1000_S1000_d0 h_S_ (ix1 k) = (∑ i : Fin 16384, p (ix2 i k) : EReal) := by
  pointwise

theorem smoothed_at (p : Mat) (t : Row) (k : Fin 1000) :
    smoothed p t (ix1 k) = smooth (t (ix1 k)) (Ideal.div (∑ i : Fin 16384, p (ix2 i k)) (Ideal.ofBits .f32 0x46800000#32)) := by
  unfold smoothed smooth
  rw [add_at, mul_at, mul_at, div_at, fillRow_at, fillRow_at, fillRow_at, means_at]
end Cert.ReferenceIdeal.Main

end
-- ==== Proof.REntB.lean ====
module

public import proofs.«01_k».proof.Proof.REntA

@[expose] public section

set_option maxRecDepth 16384

noncomputable section

namespace Cert.ReferenceIdeal.Main

open Idealize.ShloMosaic Cert.ReferenceIdeal Cert.Spec Facts₀

theorem least_at (t : Row) (j : S_.Idx) : least t j = Finset.univ.fold min (⊤ : EReal) fun k : Fin 1000 => t (ix1 k) := by
  pointwise [least, posInf]

theorem most_at (t : Row) (j : S_.Idx) : most t j = Finset.univ.fold max (⊥ : EReal) fun k : Fin 1000 => t (ix1 k) := by
  pointwise [most, negInf]

theorem spread_at (v : FVec Ideal S_ .f32) (k : Fin 1000) : broadcastInDim S1000 ![] bcast_S_S1000 v (ix1 k) = v ix0 := by
  pointwise

theorem rescaled_at (t : Row) (k : Fin 1000) : rescaled t (ix1 k) = rescale (fun k => t (ix1 k)) k := by
  unfold rescaled rescale
  rw [add_at, mul_at, div_at, sub_at, spread_at, spread_at, sub_at, fillRow_at, fillRow_at, least_at, most_at]

theorem bit_one : FloatOps.uitofp (F := Ideal) .f32 1#1 = (1 : EReal) := by
  show (((1#1 : BitVec 1).toNat : ℝ) : EReal) = 1
  simp
theorem bit_zero : FloatOps.uitofp (F := Ideal) .f32 0#1 = (0 : EReal) := by
  show (((0#1 : BitVec 1).toNat : ℝ) : EReal) = 0
  simp
theorem bit_at (q : Prop) [Decidable q] : FloatOps.uitofp (F := Ideal) .f32 (BitVec.ofBool (decide q)) = (if q then 1 else 0 : EReal) := by
  by_cases h : q
  · rw [if_pos h, decide_eq_true h]; exact bit_one
  · rw [if_neg h, decide_eq_false h]; exact bit_zero

theorem above_at (p : Mat) (h : Row) (i : Fin 16384) (k : Fin 1000) :
    above p h (ix2 i k) = rGt (fun k => p (ix2 i k)) (fun k => h (ix1 k)) k := by
  pointwise [above]
  exact bit_at _

theorem product_at (x : FVec Ideal S16384x2048 .f32) (w : FVec Ideal S2048x1000 .f32) (i : Fin 16384) (k : Fin 1000) :
    product x w (ix2 i k) = (∑ l : Fin 2048, x (ix2 i l) * w (ix2 l k) : EReal) := by
  pointwise [product]

theorem weights_at (f : Col) (b p : Mat) (i : Fin 16384) (k : Fin 1000) :
    weights f b p (ix2 i k)
      = (f (ix1 i) * Ideal.ofBits .f32 0x41200000#32 * b (ix2 i k) + (Ideal.ofBits .f32 0x3F800000#32 - f (ix1 i)) * p (ix2 i k) : EReal) := by
  unfold weights
  rw [add_at, mul_at, mul_at, over_at, over_at, mul_at, col_at, col_at, sub_at, fillCol_at]
  rfl

theorem total_at (v : Col) (j : S_.Idx) :
    Host.reduceAdd v (constant (F := Ideal) S_ .f32 0x00000000#32) reducesTo_S16384_S_d0 h_S_ j = (∑ i : Fin 16384, v (ix1 i) : EReal) := by
  pointwise

theorem lossOf_at (w l : Mat) (mask : Col) (j : S_.Idx) :
    lossOf w l mask j = Ideal.div (∑ i : Fin 16384, (-(∑ k : Fin 1000, (w (ix2 i k) * l (ix2 i k) : EReal))) * mask (ix1 i)) (Ideal.ofBits .f32 0x46800000#32) := by
  unfold lossOf
  rw [div_at, lit_at, total_at]
  simp only [mul_at, neg_at, sums_at]

theorem word_eq (b k : Fin 1000) : (BitVec.ofNat 32 b.val = BitVec.ofNat 32 k.val) ↔ b = k := by
  constructor
  · intro e
    have h := congrArg BitVec.toInt e
    rw [toInt_small, toInt_small] at h
    exact Fin.ext (by omega)
  · rintro rfl; rfl

theorem oneHot_at (v : IVec S16384 32) (i : Fin 16384) (b k : Fin 1000) (hb : v (ix1 i) = BitVec.ofNat 32 b.val) :
    oneHot v (ix2 i k) = (if b = k then 1 else 0 : EReal) := by
  pointwise [oneHot]
  rw [hb]
  refine (bit_at (BitVec.ofNat 32 b.val = BitVec.ofNat 32 k.val)).trans ?_
  simp only [word_eq]

theorem wrapped_at (v : IVec S16384 32) (i : Fin 16384) (b : Fin 1000) (hb : v (ix1 i) = BitVec.ofNat 32 b.val) :
    wrapped v (ix2 i 0) = BitVec.ofNat 32 b.val := by
  pointwise [wrapped]
  rw [hb]
  exact Routing.wrap_of_lt _ _ (by have := b.isLt; simp; omega)

theorem one_lit : Ideal.ofBits .f32 0x3F800000#32 = 1 := by simp [Ideal.ofBits, Ideal.ieee]; rw [← EReal.coe_mul, ← EReal.coe_one]; norm_num
theorem zero_lit : Ideal.ofBits .f32 0x00000000#32 = 0 := by simp [Ideal.ofBits, Ideal.ieee]

theorem counts_at (v : IVec S16384 32) (B : Fin 16384 → Fin 1000) (hB : ∀ i, v (ix1 i) = BitVec.ofNat 32 (B i).val) (k : Fin 1000) :
    counts v (ix1 k) = rFreq B k := by
  unfold counts rFreq
  rw [scatter_at _ _ _ B fun i => wrapped_at v i _ (hB i)]
  rw [fillRow_at, zero_lit, zero_add]
  exact Finset.sum_congr rfl fun i _ => by rw [fillCol_at, one_lit]
end Cert.ReferenceIdeal.Main

end
-- ==== Proof.Reals.lean ====
module

public import proofs.«01_k».proof.Proof.RSpec
public import proofs.«01_k».proof.Proof.KSpec
public import Mathlib.Analysis.SpecialFunctions.Log.Basic
public import Mathlib.Data.EReal.Inv

@[expose] public section

/-! The softmax, its logarithm and the thresholds, of a finite row, as real numbers. -/

noncomputable section

namespace Cert.Spec

open Idealize.ShloMosaic

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem exp_coe (r : ℝ) : Ideal.exp (r : EReal) = ((Real.exp r : ℝ) : EReal) := rfl

theorem log_coe {r : ℝ} (h : 0 < r) : Ideal.log (r : EReal) = ((Real.log r : ℝ) : EReal) := if_neg (not_le.2 h)

theorem div_coe_coe (x : ℝ) {y : ℝ} (h : y ≠ 0) : Ideal.div (x : EReal) (y : EReal) = ((x / y : ℝ) : EReal) := by
  rw [Ideal.div_coe h, ← EReal.coe_mul, mul_one_div]

/-! The literals -/

theorem lit_ten : Ideal.ofBits .f32 0x41200000#32 = ((10 : ℝ) : EReal) := by simp [Ideal.ofBits, Ideal.ieee]; rw [← EReal.coe_mul]; norm_num
theorem lit_neg_ten : Ideal.ofBits .f32 0xC1200000#32 = ((-10 : ℝ) : EReal) := by simp [Ideal.ofBits, Ideal.ieee]; rw [← EReal.coe_mul]; norm_num
theorem lit_rows : Ideal.ofBits .f32 0x46800000#32 = ((16384 : ℝ) : EReal) := by simp [Ideal.ofBits, Ideal.ieee]; rw [← EReal.coe_mul]; norm_num
theorem lit_rows_inv : Ideal.ofBits .f32 0x38800000#32 = ((1 / 16384 : ℝ) : EReal) := by simp [Ideal.ofBits, Ideal.ieee]; rw [← EReal.coe_mul]; norm_num
theorem lit_range : ∃ r : ℝ, Ideal.ofBits .f32 0x3E19999A#32 = (r : EReal) ∧ 0 ≤ r :=
  ⟨_, by simp [Ideal.ofBits, Ideal.ieee]; rfl, by positivity⟩
theorem lit_base : ∃ r : ℝ, Ideal.ofBits .f32 0x3F4CCCCD#32 = (r : EReal) ∧ 1 / 2 < r :=
  ⟨_, by simp [Ideal.ofBits, Ideal.ieee]; rfl, by norm_num⟩

/-! The largest and the least of a row -/

theorem fold_max_spec (y : Fin 1000 → EReal) :
    (∀ k, y k ≤ Finset.univ.fold max ⊥ fun k => y k) ∧ ∃ k, y k = Finset.univ.fold max ⊥ fun k => y k := by
  have e : (Finset.univ.fold max ⊥ fun k => y k) = Finset.univ.sup y := rfl
  rw [e]
  refine ⟨fun k => Finset.le_sup (Finset.mem_univ k), ?_⟩
  obtain ⟨k, _, h⟩ := Finset.exists_mem_eq_sup Finset.univ Finset.univ_nonempty y
  exact ⟨k, h.symm⟩

theorem fold_min_spec (y : Fin 1000 → EReal) :
    (∀ k, (Finset.univ.fold min ⊤ fun k => y k) ≤ y k) ∧ ∃ k, y k = Finset.univ.fold min ⊤ fun k => y k := by
  have e : (Finset.univ.fold min ⊤ fun k => y k) = Finset.univ.inf y := rfl
  rw [e]
  refine ⟨fun k => Finset.inf_le (Finset.mem_univ k), ?_⟩
  obtain ⟨k, _, h⟩ := Finset.exists_mem_eq_inf Finset.univ Finset.univ_nonempty y
  exact ⟨k, h.symm⟩

theorem rMax_coe (y : Fin 1000 → ℝ) : ∃ b : Fin 1000, rMax (fun k => ((y k : ℝ) : EReal)) = ((y b : ℝ) : EReal) ∧ ∀ k, y k ≤ y b := by
  obtain ⟨h, b, hb⟩ := fold_max_spec fun k => ((y k : ℝ) : EReal)
  refine ⟨b, hb.symm, fun k => ?_⟩
  have := h k
  rw [← hb] at this
  exact EReal.coe_le_coe_iff.1 this

/-! The softmax -/

/-- The sum of the exponentials of a row of real numbers. -/
def z (y : Fin 1000 → ℝ) : ℝ := ∑ c, Real.exp (y c)

/-- The softmax of a row of real numbers. -/
def p (y : Fin 1000 → ℝ) (k : Fin 1000) : ℝ := Real.exp (y k) / z y

theorem z_pos (y : Fin 1000 → ℝ) : 0 < z y := Finset.sum_pos (fun _ _ => Real.exp_pos _) Finset.univ_nonempty

theorem p_pos (y : Fin 1000 → ℝ) (k : Fin 1000) : 0 < p y k := div_pos (Real.exp_pos _) (z_pos y)

theorem sum_p (y : Fin 1000 → ℝ) : ∑ k, p y k = 1 := by
  unfold p
  rw [← Finset.sum_div]
  exact div_self (z_pos y).ne'

theorem expSum_coe (y : Fin 1000 → ℝ) : expSum (fun k => ((y k : ℝ) : EReal)) = ((z y : ℝ) : EReal) := by
  unfold expSum z
  simp only [exp_coe]
  exact coe_sum _ _

theorem z_shift (y : Fin 1000 → ℝ) (b : ℝ) : ∑ c, Real.exp (y c - b) = z y / Real.exp b := by
  unfold z
  rw [Finset.sum_div]
  exact Finset.sum_congr rfl fun c _ => Real.exp_sub _ _

theorem rSum_coe (y : Fin 1000 → ℝ) (b : ℝ) (hb : rMax (fun k => ((y k : ℝ) : EReal)) = (b : EReal)) :
    rSum (fun k => ((y k : ℝ) : EReal)) = ((z y / Real.exp b : ℝ) : EReal) := by
  unfold rSum
  rw [hb]
  simp only [← EReal.coe_sub, exp_coe]
  rw [coe_sum, z_shift]

theorem prob_coe (y : Fin 1000 → ℝ) : prob (fun k => ((y k : ℝ) : EReal)) = fun k => ((p y k : ℝ) : EReal) := by
  funext k
  obtain ⟨b, hb, _⟩ := rMax_coe y
  unfold prob
  rw [rSum_coe y _ hb, hb, ← EReal.coe_sub, exp_coe,
    div_coe_coe _ (div_pos (z_pos y) (Real.exp_pos _)).ne', Real.exp_sub, div_div_div_cancel_right₀ (Real.exp_pos _).ne']
  rfl

theorem logProb_coe (y : Fin 1000 → ℝ) : logProb (fun k => ((y k : ℝ) : EReal)) = fun k => ((y k - Real.log (z y) : ℝ) : EReal) := by
  funext k
  obtain ⟨b, hb, _⟩ := rMax_coe y
  unfold logProb
  rw [rSum_coe y _ hb, hb, log_coe (div_pos (z_pos y) (Real.exp_pos _)), ← EReal.coe_sub, ← EReal.coe_sub,
    Real.log_div (z_pos y).ne' (Real.exp_pos _).ne', Real.log_exp]
  exact congrArg _ (by ring)

/-- The kernel's mean of the probabilities is the reference's. -/
theorem mean_eq (y : Fin 16384 → Fin 1000 → ℝ) (k : Fin 1000) :
    (∑ i, Ideal.exp ((y i k : ℝ) : EReal) * Ideal.div 1 (expSum fun k => ((y i k : ℝ) : EReal))) * Ideal.ofBits .f32 0x38800000#32
      = Ideal.div (∑ i, prob (fun k => ((y i k : ℝ) : EReal)) k) (Ideal.ofBits .f32 0x46800000#32) := by
  have h : ∀ i, Ideal.exp ((y i k : ℝ) : EReal) * Ideal.div 1 (expSum fun k => ((y i k : ℝ) : EReal)) = ((p (y i) k : ℝ) : EReal) := by
    intro i
    rw [expSum_coe, exp_coe, ← EReal.coe_one, div_coe_coe _ (z_pos _).ne', ← EReal.coe_mul, mul_one_div]
    rfl
  simp only [h, prob_coe]
  rw [coe_sum, lit_rows, lit_rows_inv, div_coe_coe _ (by norm_num), ← EReal.coe_mul, mul_one_div]

/-! The thresholds -/

/-- Thresholds that are not all the same are, rescaled, real numbers above one half. -/
theorem rescale_coe (t : Fin 1000 → EReal)
    (hd : ((Finset.univ.fold max ⊥ fun k => t k) - Finset.univ.fold min ⊤ fun k => t k) ≠ 0) (c : Fin 1000) :
    ∃ h : ℝ, rescale t c = (h : EReal) ∧ 1 / 2 < h := by
  obtain ⟨r, hr, hr0⟩ := lit_range
  obtain ⟨s, hs, hs0⟩ := lit_base
  suffices hq : ∃ q : ℝ, Ideal.div (t c - Finset.univ.fold min ⊤ fun k => t k)
      ((Finset.univ.fold max ⊥ fun k => t k) - Finset.univ.fold min ⊤ fun k => t k) = (q : EReal) ∧ 0 ≤ q by
    obtain ⟨q, hq, hq0⟩ := hq
    unfold rescale
    rw [hq, hr, hs, ← EReal.coe_mul, ← EReal.coe_add]
    exact ⟨_, rfl, by nlinarith [mul_nonneg hq0 hr0]⟩
  have hM := (fold_max_spec t).1 c
  have hm := (fold_min_spec t).1 c
  generalize (Finset.univ.fold max ⊥ fun k => t k) = M at *
  generalize (Finset.univ.fold min ⊤ fun k => t k) = m at *
  generalize t c = x at *
  unfold Ideal.div
  rw [if_neg hd]
  have inf : ∀ d : EReal, d = ⊤ ∨ d = ⊥ → ∃ q : ℝ, (x - m) * d⁻¹ = (q : EReal) ∧ 0 ≤ q := by
    rintro d (rfl | rfl)
    · exact ⟨0, by simp, le_refl _⟩
    · exact ⟨0, by simp, le_refl _⟩
  induction M using EReal.rec with
  | bot => exact inf _ (Or.inr (by simp [sub_eq_add_neg]))
  | top =>
    induction m using EReal.rec with
    | bot => exact inf _ (Or.inl (by simp))
    | top => exact inf _ (Or.inr (by simp))
    | coe m => exact inf _ (Or.inl (by simp))
  | coe M =>
    induction m using EReal.rec with
    | bot => exact inf _ (Or.inl (by simp))
    | top => exact inf _ (Or.inr (by simp))
    | coe m =>
      induction x using EReal.rec with
      | bot => simp at hm
      | top => simp at hM
      | coe x =>
        have h1 : x ≤ M := EReal.coe_le_coe_iff.1 hM
        have h2 : m ≤ x := EReal.coe_le_coe_iff.1 hm
        refine ⟨(x - m) * (M - m)⁻¹, ?_, mul_nonneg (by linarith) (inv_nonneg.2 (by linarith))⟩
        rw [EReal.coe_mul, EReal.coe_inv, EReal.coe_sub, EReal.coe_sub]

/-- A class exceeds its threshold in the kernel exactly when it does in the reference. -/
theorem gt_eq (y : Fin 1000 → ℝ) (h : Fin 1000 → ℝ) (h0 : ∀ k, 0 < h k) (k : Fin 1000) :
    kGt (fun k => ((y k : ℝ) : EReal)) (fun k => Ideal.log ((h k : ℝ) : EReal)) k = if h k < p y k then 1 else 0 := by
  have e : Ideal.log ((h k : ℝ) : EReal) + Ideal.log (expSum fun k => ((y k : ℝ) : EReal)) < ((y k : ℝ) : EReal) ↔ h k < p y k := by
    rw [expSum_coe, log_coe (z_pos y), log_coe (h0 k), ← EReal.coe_add, EReal.coe_lt_coe_iff,
      ← Real.log_mul (h0 k).ne' (z_pos y).ne', Real.log_lt_iff_lt_exp (mul_pos (h0 k) (z_pos y)), p, lt_div_iff₀ (z_pos y)]
  unfold kGt
  simp only [e]

end Cert.Spec

end
-- ==== Proof.Equal.lean ====
module

public import proofs.«01_k».proof.Proof.Reals

@[expose] public section

set_option maxRecDepth 16384

/-! The kernel's results are the reference's. -/

noncomputable section

namespace Cert.Spec

open Idealize.ShloMosaic

/-- At most one probability of a row exceeds its threshold, when the thresholds are above one half. -/
theorem p_small (y h : Fin 1000 → ℝ) (hh : ∀ k, 1 / 2 < h k) (k0 : Fin 1000) (h0 : h k0 < p y k0) (k : Fin 1000) (hk : k ≠ k0) : p y k < 1 / 2 := by
  have hs := sum_p y
  rw [← Finset.add_sum_erase _ _ (Finset.mem_univ k0)] at hs
  have hle : p y k ≤ ∑ c ∈ Finset.univ.erase k0, p y c :=
    Finset.single_le_sum (fun c _ => (p_pos y c).le) (Finset.mem_erase.2 ⟨hk, Finset.mem_univ k⟩)
  have := hh k0
  linarith

theorem p_lt (y : Fin 1000 → ℝ) (a b : Fin 1000) : p y a < p y b ↔ y a < y b := by
  unfold p
  rw [div_lt_div_iff_of_pos_right (z_pos y), Real.exp_lt_exp]

/-- A row in which a class exceeds its threshold: the indicator is that class', which is the row's label. -/
theorem fires (y h : Fin 1000 → ℝ) (hh : ∀ k, 1 / 2 < h k) (k0 : Fin 1000) (h0 : h k0 < p y k0) (k : Fin 1000) : h k < p y k ↔ k0 = k := by
  constructor
  · intro g
    by_contra e
    have := p_small y h hh k0 h0 k (Ne.symm e)
    have := hh k
    linarith
  · rintro rfl; exact h0

/-- The largest of indicators. -/
theorem fold_some (g : Fin 1000 → EReal) (h01 : ∀ k, g k = 0 ∨ g k = 1) (k0 : Fin 1000) (h1 : g k0 = 1) : (Finset.univ.fold max ⊥ fun k => g k) = 1 := by
  obtain ⟨h, b, hb⟩ := fold_max_spec g
  refine le_antisymm ?_ (h1 ▸ h k0)
  rw [← hb]
  rcases h01 b with e | e <;> rw [e]
  exact zero_le_one

theorem fold_none (g : Fin 1000 → EReal) (h0 : ∀ k, g k = 0) : (Finset.univ.fold max ⊥ fun k => g k) = 0 := by
  obtain ⟨_, b, hb⟩ := fold_max_spec g
  rw [← hb, h0]

/-- The first largest of a row of which one entry is larger than all others. -/
theorem first_unique (f : Fin 1000 → EReal) (b k0 : Fin 1000) (hb : First f b) (h : ∀ k, k ≠ k0 → f k < f k0) : b = k0 := by
  by_contra e
  have h1 := h b e
  rcases hb k0 with g | ⟨g, _⟩
  · exact lt_asymm h1 g
  · exact h1.ne g.symm

/-- The indicators of a row are the same in the kernel and in the reference. -/
theorem kGt_coe (y h : Fin 1000 → ℝ) (hh : ∀ k, 1 / 2 < h k) :
    kGt (fun k => ((y k : ℝ) : EReal)) (fun k => Ideal.log ((h k : ℝ) : EReal)) = fun k => if h k < p y k then 1 else 0 :=
  funext fun k => gt_eq y h (fun k => lt_trans (by norm_num) (hh k)) k

theorem rGt_coe (y h : Fin 1000 → ℝ) :
    rGt (prob fun k => ((y k : ℝ) : EReal)) (fun k => ((h k : ℝ) : EReal)) = fun k => if h k < p y k then 1 else 0 := by
  funext k
  rw [prob_coe]
  unfold rGt
  simp only [EReal.coe_lt_coe_iff]

theorem kFired_eq (y h : Fin 1000 → ℝ) (hh : ∀ k, 1 / 2 < h k) :
    kFired (fun k => ((y k : ℝ) : EReal)) (fun k => Ideal.log ((h k : ℝ) : EReal))
      = rFired (prob fun k => ((y k : ℝ) : EReal)) (fun k => ((h k : ℝ) : EReal)) := by
  unfold kFired rFired
  rw [kGt_coe y h hh, rGt_coe]

theorem fired_some (y h : Fin 1000 → ℝ) (k0 : Fin 1000) (h0 : h k0 < p y k0) :
    rFired (prob fun k => ((y k : ℝ) : EReal)) (fun k => ((h k : ℝ) : EReal)) = 1 := by
  unfold rFired
  rw [rGt_coe]
  exact fold_some _ (fun k => by by_cases e : h k < p y k <;> simp [e]) k0 (if_pos h0)

theorem fired_none (y h : Fin 1000 → ℝ) (h0 : ∀ k, ¬ h k < p y k) :
    rFired (prob fun k => ((y k : ℝ) : EReal)) (fun k => ((h k : ℝ) : EReal)) = 0 := by
  unfold rFired
  rw [rGt_coe]
  exact fold_none _ fun k => if_neg (h0 k)

theorem one_sub_one : (1 : EReal) - 1 = 0 := by
  rw [← EReal.coe_one, ← EReal.coe_sub, sub_self, EReal.coe_zero]

/-- What a row adds to the kernel's counts is one at the row's label. -/
theorem freq_row (y h : Fin 1000 → ℝ) (hh : ∀ k, 1 / 2 < h k) (b : Fin 1000)
    (hb : First (rGt (prob fun k => ((y k : ℝ) : EReal)) (fun k => ((h k : ℝ) : EReal))) b) (k : Fin 1000) :
    kGt (fun k => ((y k : ℝ) : EReal)) (fun k => Ideal.log ((h k : ℝ) : EReal)) k
      + (if k.val = 0 then 1 - kFired (fun k => ((y k : ℝ) : EReal)) (fun k => Ideal.log ((h k : ℝ) : EReal)) else 0)
      = if b = k then 1 else 0 := by
  rw [rGt_coe] at hb
  rw [kFired_eq y h hh, kGt_coe y h hh]
  by_cases hs : ∃ k0, h k0 < p y k0
  · obtain ⟨k0, h0⟩ := hs
    have hbk : b = k0 := first_unique _ b k0 hb fun c hc => by
      have hn : ¬ h c < p y c := fun g => hc ((fires y h hh k0 h0 c).1 g).symm
      rw [if_neg hn, if_pos h0]
      exact zero_lt_one
    rw [fired_some y h k0 h0, one_sub_one, ite_self, add_zero, hbk]
    dsimp only
    simp only [fires y h hh k0 h0 k]
  · have hn : ∀ k, ¬ h k < p y k := fun k g => hs ⟨k, g⟩
    have hb0 : b = 0 := by
      rcases hb 0 with g | ⟨_, g⟩
      · dsimp only at g
        rw [if_neg (hn 0), if_neg (hn b)] at g
        exact absurd g (lt_irrefl _)
      · exact le_antisymm g (Fin.zero_le b)
    rw [fired_none y h hn, hb0]
    dsimp only
    rw [if_neg (hn k), zero_add, sub_zero]
    have e : k.val = 0 ↔ (0 : Fin 1000) = k := ⟨fun g => Fin.ext g.symm, fun g => g ▸ rfl⟩
    simp only [e]

/-- The reference's loss of a row, as a real number. -/
theorem rRow_coe (q l : Fin 1000 → ℝ) (f : ℝ) (b : Fin 1000) :
    rRow (fun k => ((q k : ℝ) : EReal)) (f : EReal) b (fun k => ((l k : ℝ) : EReal))
      = ((-∑ k, (f * 10 * (if b = k then 1 else 0) + (1 - f) * q k) * l k : ℝ) : EReal) := by
  unfold rRow
  rw [lit_ten, EReal.coe_neg, ← coe_sum]
  refine congrArg _ (Finset.sum_congr rfl fun k _ => ?_)
  rw [EReal.coe_mul, EReal.coe_add, EReal.coe_mul, EReal.coe_mul, EReal.coe_mul, EReal.coe_sub, EReal.coe_one]
  by_cases e : b = k <;> simp [e]

/-- The row's loss is the same in the kernel and in the reference. -/
theorem loss_row (y h o : Fin 1000 → ℝ) (hh : ∀ k, 1 / 2 < h k) (b : Fin 1000) (hb : First (prob fun k => ((y k : ℝ) : EReal)) b) :
    kRow (fun k => ((y k : ℝ) : EReal)) (fun k => Ideal.log ((h k : ℝ) : EReal)) (fun k => ((o k : ℝ) : EReal))
      = rRow (prob fun k => ((y k : ℝ) : EReal))
          (rFired (prob fun k => ((y k : ℝ) : EReal)) (fun k => ((h k : ℝ) : EReal))) b (logProb fun k => ((o k : ℝ) : EReal)) := by
  unfold kRow
  rw [kFired_eq y h hh, expSum_coe o, log_coe (z_pos o), logProb_coe]
  by_cases hs : ∃ k0, h k0 < p y k0
  · obtain ⟨k0, h0⟩ := hs
    have hp : ∀ c, c ≠ k0 → p y c < p y k0 := fun c hc => by
      have := p_small y h hh k0 h0 c hc
      have := hh k0
      linarith
    rw [prob_coe] at hb
    have hbk : b = k0 := first_unique _ b k0 hb fun c hc => EReal.coe_lt_coe_iff.2 (hp c hc)
    have hmax : (Finset.univ.fold max ⊥ fun k => ((y k : ℝ) : EReal)) = ((y k0 : ℝ) : EReal) := by
      obtain ⟨g, c, hc⟩ := fold_max_spec fun k => ((y k : ℝ) : EReal)
      by_cases e : c = k0
      · rw [← hc, e]
      · have := g k0
        rw [← hc] at this
        exact absurd (EReal.coe_le_coe_iff.1 this) (not_le.2 ((p_lt y c k0).1 (hp c e)))
    have hsel : ∀ c, (if ((y c : ℝ) : EReal) = ((y k0 : ℝ) : EReal) then ((o c : ℝ) : EReal) else 0) = if c = k0 then ((o c : ℝ) : EReal) else 0 := by
      intro c
      by_cases e : c = k0
      · rw [e, if_pos rfl, if_pos rfl]
      · rw [if_neg e, if_neg fun g => absurd (EReal.coe_eq_coe_iff.1 g) ((p_lt y c k0).1 (hp c e)).ne]
    rw [fired_some y h k0 h0, if_pos zero_lt_one, if_pos zero_lt_one, prob_coe, ← EReal.coe_one, rRow_coe, hmax]
    simp only [hsel]
    rw [Finset.sum_ite_eq' Finset.univ k0, if_pos (Finset.mem_univ _), lit_ten, lit_neg_ten, ← EReal.coe_mul, ← EReal.coe_mul, ← EReal.coe_add, hbk]
    refine congrArg _ ?_
    simp only [sub_self, zero_mul, add_zero, mul_ite, mul_one, mul_zero, ite_mul]
    rw [Finset.sum_ite_eq Finset.univ k0, if_pos (Finset.mem_univ _)]
    ring
  · have hn : ∀ k, ¬ h k < p y k := fun k g => hs ⟨k, g⟩
    have hterm : ∀ c, Ideal.exp ((y c : ℝ) : EReal) * ((o c : ℝ) : EReal) = ((Real.exp (y c) * o c : ℝ) : EReal) := fun c => by
      rw [exp_coe, EReal.coe_mul]
    rw [fired_none y h hn, if_neg (lt_irrefl _), if_neg (lt_irrefl _), prob_coe, ← EReal.coe_zero, rRow_coe, expSum_coe]
    simp only [hterm]
    rw [coe_sum, ← EReal.coe_sub, div_coe_coe _ (z_pos y).ne', mul_one, ← EReal.coe_add]
    refine congrArg _ ?_
    have e1 : ∑ k, (0 * 10 * (if b = k then (1 : ℝ) else 0) + (1 - 0) * p y k) * (o k - Real.log (z o))
        = (∑ c, Real.exp (y c) * o c) / z y - Real.log (z o) := by
      have e2 : ∀ k, (0 * 10 * (if b = k then (1 : ℝ) else 0) + (1 - 0) * p y k) * (o k - Real.log (z o))
          = Real.exp (y k) * o k / z y - p y k * Real.log (z o) := fun k => by
        unfold p
        ring
      simp only [e2]
      rw [Finset.sum_sub_distrib, ← Finset.sum_div, ← Finset.sum_mul, sum_p, one_mul]
    rw [e1]
    ring

/-- Over finite scores, features and weights and smoothed thresholds that are not all the same, the kernel's two
results are the reference's. -/
theorem values (X : Fin 16384 → Fin 2048 → EReal) (Y : Fin 16384 → Fin 1000 → EReal) (M : Fin 16384 → EReal) (T : Fin 1000 → EReal)
    (W : Fin 2048 → Fin 1000 → EReal) (hX : ∀ i l, ∃ r : ℝ, X i l = (r : EReal)) (hY : ∀ i k, ∃ r : ℝ, Y i k = (r : EReal))
    (hW : ∀ l k, ∃ r : ℝ, W l k = (r : EReal))
    (hd : ((Finset.univ.fold max ⊥ fun k => rSmooth Y T k) - Finset.univ.fold min ⊤ fun k => rSmooth Y T k) ≠ 0)
    (B C : Fin 16384 → Fin 1000) (hB : ∀ i, First (prob (Y i)) (B i)) (hC : ∀ i, First (rGt (prob (Y i)) (rTh Y T)) (C i)) :
    kLoss X Y M T W = rLoss X Y M T W B ∧ ∀ k, kFreq Y T k = rFreq C k := by
  choose x hx using hX
  choose y hy using hY
  choose w hw using hW
  obtain rfl : X = fun i l => ((x i l : ℝ) : EReal) := funext fun i => funext fun l => hx i l
  obtain rfl : Y = fun i k => ((y i k : ℝ) : EReal) := funext fun i => funext fun k => hy i k
  obtain rfl : W = fun l k => ((w l k : ℝ) : EReal) := funext fun l => funext fun k => hw l k
  choose h hh hpos using fun c => rescale_coe (rSmooth (fun i k => ((y i k : ℝ) : EReal)) T) hd c
  have hth : rTh (fun i k => ((y i k : ℝ) : EReal)) T = fun k => ((h k : ℝ) : EReal) := funext hh
  have hlt : kLT (fun i k => ((y i k : ℝ) : EReal)) T = fun k => Ideal.log ((h k : ℝ) : EReal) := by
    funext k
    rw [← congrFun hth k]
    unfold kLT rTh
    refine congrArg Ideal.log (congrArg (fun t => rescale t k) (funext fun c => ?_))
    exact congrArg (smooth (T c)) (mean_eq y c)
  have ho : ∀ i, (fun k => ∑ l, ((w l k : ℝ) : EReal) * ((x i l : ℝ) : EReal)) = fun k => ((∑ l, x i l * w l k : ℝ) : EReal) := fun i => by
    funext k
    rw [← coe_sum]
    exact Finset.sum_congr rfl fun l _ => by rw [EReal.coe_mul, mul_comm]
  have ho' : ∀ i, (fun k => ∑ l, ((x i l : ℝ) : EReal) * ((w l k : ℝ) : EReal)) = fun k => ((∑ l, x i l * w l k : ℝ) : EReal) := fun i => by
    funext k
    rw [← coe_sum]
    exact Finset.sum_congr rfl fun l _ => by rw [EReal.coe_mul]
  constructor
  · unfold kLoss rLoss
    rw [hth, hlt]
    refine congrArg (fun s : EReal => Ideal.div s (Ideal.ofBits .f32 0x46800000#32)) ?_
    refine Finset.sum_congr rfl fun i _ => ?_
    rw [ho, ho', loss_row (y i) h _ hpos (B i) (hB i)]
  · intro k
    unfold kFreq rFreq
    rw [hlt]
    rw [hth] at hC
    have e : (if k.val = 0 then ∑ i, (1 - kFired (fun k => ((y i k : ℝ) : EReal)) (fun k => Ideal.log ((h k : ℝ) : EReal))) else 0)
        = ∑ i, if k.val = 0 then 1 - kFired (fun k => ((y i k : ℝ) : EReal)) (fun k => Ideal.log ((h k : ℝ) : EReal)) else 0 := by
      by_cases e : k.val = 0 <;> simp [e]
    rw [e, ← Finset.sum_add_distrib]
    exact Finset.sum_congr rfl fun i _ => freq_row (y i) h hpos (C i) (hC i) k

end Cert.Spec

end
-- ==== Proof.RVal.lean ====
module

public import proofs.«01_k».proof.Proof.REntB
public import proofs.«01_k».proof.Proof.Equal

@[expose] public section

set_option maxRecDepth 16384

noncomputable section

/-! # The reference's two results, entry by entry -/

namespace Cert.ReferenceIdeal.Main

open Idealize.ShloMosaic Cert.ReferenceIdeal Cert.Spec

/-- The indicators of the probabilities above the thresholds. -/
def fires (y : Mat) (t : Row) : Mat := above (probs y) (rescaled (smoothed (probs y) t))

/-- The reference's loss. -/
def refLoss (x : FVec Ideal S16384x2048 .f32) (y : Mat) (mask : Col) (t : Row) (w : FVec Ideal S2048x1000 .f32) : FVec Ideal S_ .f32 :=
  lossOf (weights (maxes (fires y t)) (oneHot (argmax (probs y))) (probs y)) (logSoftmax (product x w)) mask

/-- The reference's class frequencies. -/
def refFreq (y : Mat) (t : Row) : Row := counts (argmax (fires y t))

variable (x : FVec Ideal S16384x2048 .f32) (y : Mat) (mask : Col) (t : Row) (w : FVec Ideal S2048x1000 .f32)

theorem smoothed_val (k : Fin 1000) :
    smoothed (probs y) t (ix1 k) = rSmooth (fun i k => y (ix2 i k)) (fun k => t (ix1 k)) k := by
  rw [smoothed_at]
  unfold rSmooth
  simp only [probs_at]

theorem fires_at (i : Fin 16384) (k : Fin 1000) :
    fires y t (ix2 i k) = rGt (prob fun k => y (ix2 i k)) (rTh (fun i k => y (ix2 i k)) fun k => t (ix1 k)) k := by
  unfold fires
  rw [above_at]
  have e : (fun k => probs y (ix2 i k)) = prob fun k => y (ix2 i k) := funext fun k => probs_at y i k
  have e' : (fun k => rescaled (smoothed (probs y) t) (ix1 k)) = rTh (fun i k => y (ix2 i k)) fun k => t (ix1 k) := by
    funext k
    rw [rescaled_at]
    unfold rTh
    exact congrArg (fun s => rescale s k) (funext fun k => smoothed_val y t k)
  rw [e, e']

theorem fires_gt (i : Fin 16384) (k : Fin 1000) : (⊥ : EReal) < fires y t (ix2 i k) := by
  rw [fires_at]
  unfold rGt
  split
  · exact EReal.bot_lt_coe 1
  · exact EReal.bot_lt_coe 0

theorem probs_gt (hY : ∀ i k, ∃ r : ℝ, y (ix2 i k) = (r : EReal)) (i : Fin 16384) (k : Fin 1000) : (⊥ : EReal) < probs y (ix2 i k) := by
  choose z hz using hY
  rw [probs_at]
  have e : (fun k => y (ix2 i k)) = fun k => ((z i k : ℝ) : EReal) := funext fun k => hz i k
  rw [e, prob_coe]
  exact EReal.bot_lt_coe _

theorem refFreq_at (C : Fin 16384 → Fin 1000) (hC : ∀ i, argmax (fires y t) (ix1 i) = BitVec.ofNat 32 (C i).val) (k : Fin 1000) :
    refFreq y t (ix1 k) = rFreq C k := counts_at _ C hC k

theorem refLoss_at (B : Fin 16384 → Fin 1000) (hB : ∀ i, argmax (probs y) (ix1 i) = BitVec.ofNat 32 (B i).val) (j : S_.Idx) :
    refLoss x y mask t w j = rLoss (fun i l => x (ix2 i l)) (fun i k => y (ix2 i k)) (fun i => mask (ix1 i)) (fun k => t (ix1 k))
      (fun l k => w (ix2 l k)) B := by
  unfold refLoss rLoss
  rw [lossOf_at]
  refine congrArg (fun s : EReal => Ideal.div s (Ideal.ofBits .f32 0x46800000#32)) ?_
  refine Finset.sum_congr rfl fun i _ => ?_
  refine congrArg (fun s : EReal => s * mask (ix1 i)) ?_
  unfold rRow
  refine congrArg (fun s : EReal => -s) ?_
  refine Finset.sum_congr rfl fun k _ => ?_
  rw [weights_at, oneHot_at _ i (B i) k (hB i), logSoftmax_at, probs_at, maxes_at, one_lit]
  have e : (fun k => fires y t (ix2 i k)) = rGt (prob fun k => y (ix2 i k)) (rTh (fun i k => y (ix2 i k)) fun k => t (ix1 k)) :=
    funext fun k => fires_at y t i k
  have e' : (fun k => product x w (ix2 i k)) = fun k => (∑ l : Fin 2048, x (ix2 i l) * w (ix2 l k) : EReal) :=
    funext fun k => product_at x w i k
  rw [e, e']
  rfl

/-- The kernel's two values are the reference's. -/
theorem results (hX : ∀ i l, ∃ r : ℝ, x (ix2 i l) = (r : EReal)) (hY : ∀ i k, ∃ r : ℝ, y (ix2 i k) = (r : EReal))
    (hW : ∀ l k, ∃ r : ℝ, w (ix2 l k) = (r : EReal))
    (hd : (most (smoothed (probs y) t) ix0 - least (smoothed (probs y) t) ix0 : EReal) ≠ 0) :
    (∀ j, kLoss (fun i l => x (ix2 i l)) (fun i k => y (ix2 i k)) (fun i => mask (ix1 i)) (fun k => t (ix1 k)) (fun l k => w (ix2 l k))
        = refLoss x y mask t w j)
      ∧ ∀ k, kFreq (fun i k => y (ix2 i k)) (fun k => t (ix1 k)) k = refFreq y t (ix1 k) := by
  choose B hB hB' using fun i => argmax_at (probs y) i (probs_gt y hY i)
  choose C hC hC' using fun i => argmax_at (fires y t) i (fires_gt y t i)
  have hd' : ((Finset.univ.fold max ⊥ fun k => rSmooth (fun i k => y (ix2 i k)) (fun k => t (ix1 k)) k)
      - Finset.univ.fold min ⊤ fun k => rSmooth (fun i k => y (ix2 i k)) (fun k => t (ix1 k)) k : EReal) ≠ 0 := by
    rw [most_at, least_at] at hd
    simp only [smoothed_val] at hd
    exact hd
  have h := values (fun i l => x (ix2 i l)) (fun i k => y (ix2 i k)) (fun i => mask (ix1 i)) (fun k => t (ix1 k)) (fun l k => w (ix2 l k))
    hX hY hW hd' B C
    (fun i => by
      have e : (fun k => probs y (ix2 i k)) = prob fun k => y (ix2 i k) := funext fun k => probs_at y i k
      rw [← e]; exact hB' i)
    (fun i => by
      have e : (fun k => fires y t (ix2 i k)) = rGt (prob fun k => y (ix2 i k)) (rTh (fun i k => y (ix2 i k)) fun k => t (ix1 k)) :=
        funext fun k => fires_at y t i k
      rw [← e]; exact hC' i)
  exact ⟨fun j => h.1.trans (refLoss_at x y mask t w B hB j).symm, fun k => (h.2 k).trans (refFreq_at y t C hC k).symm⟩

end Cert.ReferenceIdeal.Main

end
-- ==== Proof.RunRef.lean ====
module

public import proofs.«01_k».proof.Proof.RVal
public import Idealize.ShloMosaic.Lib.Claim

@[expose] public section

set_option maxRecDepth 16384

noncomputable section

/-! # The reference's run: its two results as compositions of its operations -/

namespace Cert.ReferenceIdeal.Main

open Idealize.ShloMosaic Idealize.ShloMosaic.TcCoe Idealize.ShloMosaic.Tactic Cert.ReferenceIdeal Cert.Spec

variable (m : (ℓ : Loc nD τ sig) → Buf (Elt Ideal) ℓ) (g : Dev nD → PrngReg)

set_option maxHeartbeats 4000000 in
theorem ref_run : θ_run (defs (F := Ideal)) (onTc (τ := τ) (main (F := Ideal))) ⟨m, fun _ => 0, g⟩ (fun r => ∀ c : Dev nD,
    r.2.mem ((c.tc : Thread nD τ).loc main_v66) = refLoss (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
    ∧ r.2.mem ((c.tc : Thread nD τ).loc main_v47) = refFreq (m ((c.tc : Thread nD τ).loc main_arg1)) (m ((c.tc : Thread nD τ).loc main_arg3))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)) := by
  hlo_run
  · simp only [StableHlo.TRef.ofBuf_toBuf]
    unfold refLoss fires lossOf weights logSoftmax rescaled above oneHot smoothed probs shifted product maxes sums over col fillCol fillRow
    rw [argmax_def]
    rfl
  · simp only [StableHlo.TRef.ofBuf_toBuf]
    unfold refFreq counts wrapped fires rescaled above smoothed probs shifted maxes sums over col fillCol fillRow
    rw [argmax_def]
    rfl

end Cert.ReferenceIdeal.Main

end
-- ==== Proof.PreRead.lean ====
module

public import proofs.«01_k».proof.Proof.REntB
public import proofs.«01_k».proof.Pre_finite_and_spread

@[expose] public section

set_option maxRecDepth 16384

noncomputable section

/-! # What the precondition says of the arguments' entries -/

namespace Cert.Pre_finite_and_spread

open Idealize.ShloMosaic

theorem facts : Facts where
  reducesTo_S16384x1000_S16384_d1 := by decide
  h_S_ := by decide
  bcast_S_S16384 := by decide
  bcast_S16384_S16384x1_0 := by decide
  bcast_S16384x1_S16384x1000_0_1 := by decide
  bcast_S_S1000 := by decide
  reducesTo_S16384x1000_S1000_d0 := by decide
  bcast_S_S16384x2048 := by decide
  bcast_S_S16384x1000 := by decide
  bcast_S_S2048x1000 := by decide
  reducesTo_S1000_S_d0 := by decide

end Cert.Pre_finite_and_spread

namespace Cert.ReferenceIdeal.Main

open Idealize.ShloMosaic Cert.ReferenceIdeal Cert.Spec

attribute [local instance] Cert.Pre_finite_and_spread.facts

theorem inf_lit : Ideal.ofBits .f32 0x7F800000#32 = (⊤ : EReal) := by simp [Ideal.ofBits, Ideal.ieee]

theorem real_of_lt (a : EReal) (h : BitVec.ofBool (decide (max a (-a) < (⊤ : EReal))) = 1#1) : ∃ r : ℝ, a = (r : EReal) := by
  have h' : max a (-a) < (⊤ : EReal) := by
    by_contra g
    rw [decide_eq_false g] at h
    exact absurd h (by decide)
  induction a with
  | bot => exact absurd h' (by simp)
  | coe r => exact ⟨r, rfl⟩
  | top => exact absurd h' (by simp)

/-- The comparison an array's precondition makes, at an index. -/
theorem finite_at {s : Shape} (a b : FVec Ideal s .f32) (hb : ∀ j, b j = (⊤ : EReal)) (h : cmpf .olt (Host.absf a) b = fun _ => 1#1) (j : s.Idx) :
    ∃ r : ℝ, a j = (r : EReal) := by
  have h' : BitVec.ofBool (decide (max (a j : EReal) (-(a j)) < (b j : EReal))) = 1#1 := congrFun h j
  rw [hb] at h'
  exact real_of_lt _ h'

theorem ne_at (a b : FVec Ideal S_ .f32) (h : cmpf .une (subf a b) (constant (F := Ideal) S_ .f32 0x00000000#32) = fun _ => 1#1) :
    (a ix0 - b ix0 : EReal) ≠ 0 := by
  intro g
  have h' : BitVec.ofBool (decide ((a ix0 - b ix0 : EReal) ≠ Ideal.ofBits .f32 0x00000000#32)) = 1#1 := congrFun h ix0
  rw [g, zero_lit] at h'
  simp at h'

variable (x : FVec Ideal S16384x2048 .f32) (y : Mat) (mask : Col) (t : Row) (w : FVec Ideal S2048x1000 .f32)

/-- The precondition's four results, as compositions of operations. -/
theorem fn_eq : Cert.Pre_finite_and_spread.fn (F := Ideal) x y mask t w
    = (cmpf .olt (Host.absf x) (broadcastInDim S16384x2048 ![] Cert.Pre_finite_and_spread.Facts.bcast_S_S16384x2048 (constant (F := Ideal) S_ .f32 0x7F800000#32)),
       cmpf .olt (Host.absf y) (broadcastInDim S16384x1000 ![] Cert.Pre_finite_and_spread.Facts.bcast_S_S16384x1000 (constant (F := Ideal) S_ .f32 0x7F800000#32)),
       cmpf .olt (Host.absf w) (broadcastInDim S2048x1000 ![] Cert.Pre_finite_and_spread.Facts.bcast_S_S2048x1000 (constant (F := Ideal) S_ .f32 0x7F800000#32)),
       cmpf .une (subf (most (smoothed (probs y) t)) (least (smoothed (probs y) t))) (constant (F := Ideal) S_ .f32 0x00000000#32)) := rfl

theorem fill_inf (s : Shape) (h : S_.BroadcastsInDim s ![]) (j : s.Idx) :
    broadcastInDim s ![] h (constant (F := Ideal) S_ .f32 0x7F800000#32) j = (⊤ : EReal) := inf_lit

theorem pre_read
    (h : (Cert.Pre_finite_and_spread.fn (F := Ideal) x y mask t w).1 = (fun _ => 1#1)
      ∧ (Cert.Pre_finite_and_spread.fn (F := Ideal) x y mask t w).2.1 = (fun _ => 1#1)
      ∧ (Cert.Pre_finite_and_spread.fn (F := Ideal) x y mask t w).2.2.1 = (fun _ => 1#1)
      ∧ (Cert.Pre_finite_and_spread.fn (F := Ideal) x y mask t w).2.2.2 = (fun _ => 1#1)) :
    (∀ i l, ∃ r : ℝ, x (ix2 i l) = (r : EReal)) ∧ (∀ i k, ∃ r : ℝ, y (ix2 i k) = (r : EReal)) ∧ (∀ l k, ∃ r : ℝ, w (ix2 l k) = (r : EReal))
      ∧ (most (smoothed (probs y) t) ix0 - least (smoothed (probs y) t) ix0 : EReal) ≠ 0 := by
  rw [fn_eq] at h
  obtain ⟨h0, h1, h2, h3⟩ := h
  exact ⟨fun i l => finite_at _ _ (fill_inf _ _) h0 _, fun i k => finite_at _ _ (fill_inf _ _) h1 _,
    fun l k => finite_at _ _ (fill_inf _ _) h2 _, ne_at _ _ h3⟩

end Cert.ReferenceIdeal.Main

end
-- ==== Proof.Values.lean ====
module

public import proofs.«01_k».proof.Defs
public import proofs.«01_k».proof.Proof.KVal
public import proofs.«01_k».proof.Proof.Same
public import proofs.«01_k».proof.Proof.RunRef
public import proofs.«01_k».proof.Proof.PreRead

@[expose] public section

set_option maxRecDepth 16384

noncomputable section

/-! # The two programs' results are equal -/

namespace Cert.Proof

open Idealize.ShloMosaic Idealize.ShloMosaic.TcCoe Cert.Spec Cert.Kernel.Main

attribute [local instance] Cert.Pre_finite_and_spread.facts

theorem algebraic : Cert.algebraic_KernelIdeal_ReferenceIdeal_pre_finite_and_spread := by
  intro m g m' g' hpre hagree
  have h0 := Cert.Kernel.Main.run_post (F := Ideal) m g
  rw [Cert.Kernel.Main.defs_same, Cert.Kernel.Main.main_same] at h0
  refine ⟨fun c => W4 m c (Proc.devRef .tc Cert.Kernel.main_v7), fun c => W4 m c (Proc.devRef .tc Cert.Kernel.main_v8), ?_, ?_⟩
  · refine θ_run_mono h0 ?_
    rintro r ⟨h, _⟩
    exact h
  · refine θ_run_mono (Cert.ReferenceIdeal.Main.ref_run m' g') ?_
    intro r h c
    obtain ⟨hl, hf, hargs⟩ := h c
    obtain ⟨a0, a1, a2, a3, a4⟩ := hagree c
    obtain ⟨hX, hY, hW, hd⟩ := Cert.ReferenceIdeal.Main.pre_read _ _ _ _ _ (hpre c)
    obtain ⟨el, ef⟩ := Cert.ReferenceIdeal.Main.results _ _ (m ((c.tc : Thread Cert.Kernel.nD Cert.Kernel.τ).loc Cert.Kernel.main_arg2)) _ _ hX hY hW hd
    rw [a0, a1, a2, a3, a4] at hl
    rw [a1, a3] at hf
    refine ⟨hl.trans ?_, hf.trans ?_, hargs⟩
    · funext j
      exact (el j).symm.trans (loss_val m c j).symm
    · funext j
      obtain ⟨k, rfl⟩ : ∃ k : Fin 1000, j = ix1 k := ⟨j 0, by funext a; match a with | 0 => rfl⟩
      exact (ef k).symm.trans (freq_val m c k).symm

end Cert.Proof

end
-- ==== Proof.lean ====
module

public import proofs.«01_k».proof.Defs
public import proofs.«01_k».proof.Proof.Frames
public import proofs.«01_k».proof.Proof.Values

@[expose] public section

noncomputable section

namespace Cert.Proof

theorem claim : Cert.Claim := ⟨Cert.Kernel.Gen.facts, Cert.KernelIdeal.Gen.facts, Cert.ReferenceIdeal.Gen.facts,
  Cert.Pre_finite_and_spread.facts,
  frame_kernel, frame_kernelIdeal, fun m g _ => frame_kernelIdeal m g trivial,
  frame_ref, fun m g _ => frame_ref m g trivial, trivial, algebraic⟩

end Cert.Proof

end
